-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S5000x9 : Shape := ⟨2, ![5000, 9]⟩
abbrev S5000x4 : Shape := ⟨2, ![5000, 4]⟩
abbrev S_ : Shape := ⟨0, ![]⟩
abbrev S5000 : Shape := ⟨1, ![5000]⟩
abbrev S5000x1 : Shape := ⟨2, ![5000, 1]⟩
abbrev S1 : Shape := ⟨1, ![1]⟩
abbrev S1x1 : Shape := ⟨2, ![1, 1]⟩
abbrev S5120x9 : Shape := ⟨2, ![5120, 9]⟩
abbrev S9x5120 : Shape := ⟨2, ![9, 5120]⟩
abbrev S9x40x128 : Shape := ⟨3, ![9, 40, 128]⟩
abbrev S40x128 : Shape := ⟨2, ![40, 128]⟩
abbrev S1x40x128 : Shape := ⟨3, ![1, 40, 128]⟩
abbrev S1x1x1 : Shape := ⟨3, ![1, 1, 1]⟩

abbrev nBuf : Space → Nat
  | .hbm => 42
  | .vmem => 4
  | .smem => 0
  | _ => 0

abbrev bufTy : (tb : Table) → Fin (tcTables nBuf tb) → BufTy
  | .hbm, ⟨0, _⟩ => ⟨S5000x9, .f32⟩
  | .hbm, ⟨1, _⟩ => ⟨S5000x4, .f32⟩
  | .hbm, ⟨2, _⟩ => ⟨S_, .f32⟩
  | .hbm, ⟨3, _⟩ => ⟨S5000, .f32⟩
  | .hbm, ⟨4, _⟩ => ⟨S5000, .f32⟩
  | .hbm, ⟨5, _⟩ => ⟨S5000, .i32⟩
  | .hbm, ⟨6, _⟩ => ⟨S5000, .f32⟩
  | .hbm, ⟨7, _⟩ => ⟨S5000, .i32⟩
  | .hbm, ⟨8, _⟩ => ⟨S_, .i32⟩
  | .hbm, ⟨9, _⟩ => ⟨S5000, .i32⟩
  | .hbm, ⟨10, _⟩ => ⟨S5000, .i1⟩
  | .hbm, ⟨11, _⟩ => ⟨S_, .i32⟩
  | .hbm, ⟨12, _⟩ => ⟨S5000, .i32⟩
  | .hbm, ⟨13, _⟩ => ⟨S5000, .i32⟩
  | .hbm, ⟨14, _⟩ => ⟨S5000, .i32⟩
  | .hbm, ⟨15, _⟩ => ⟨S5000x1, .i32⟩
  | .hbm, ⟨16, _⟩ => ⟨S1, .i32⟩
  | .hbm, ⟨17, _⟩ => ⟨S_, .i32⟩
  | .hbm, ⟨18, _⟩ => ⟨S5000x1, .i32⟩
  | .hbm, ⟨19, _⟩ => ⟨S5000x1, .i1⟩
  | .hbm, ⟨20, _⟩ => ⟨S1x1, .i32⟩
  | .hbm, ⟨21, _⟩ => ⟨S5000x1, .i32⟩
  | .hbm, ⟨22, _⟩ => ⟨S5000x1, .i1⟩
  | .hbm, ⟨23, _⟩ => ⟨S5000x1, .i1⟩
  | .hbm, ⟨24, _⟩ => ⟨S_, .i1⟩
  | .hbm, ⟨25, _⟩ => ⟨S5000, .i1⟩
  | .hbm, ⟨26, _⟩ => ⟨S5000x9, .f32⟩
  | .hbm, ⟨27, _⟩ => ⟨S5000x9, .i1⟩
  | .hbm, ⟨28, _⟩ => ⟨S_, .f32⟩
  | .hbm, ⟨29, _⟩ => ⟨S5000x9, .f32⟩
  | .hbm, ⟨30, _⟩ => ⟨S5000x9, .f32⟩
  | .hbm, ⟨31, _⟩ => ⟨S_, .f32⟩
  | .hbm, ⟨32, _⟩ => ⟨S5120x9, .f32⟩
  | .hbm, ⟨33, _⟩ => ⟨S_, .i32⟩
  | .hbm, ⟨34, _⟩ => ⟨S1, .i32⟩
  | .hbm, ⟨35, _⟩ => ⟨S5120x9, .f32⟩
  | .hbm, ⟨36, _⟩ => ⟨S9x5120, .f32⟩
  | .hbm, ⟨37, _⟩ => ⟨S9x40x128, .f32⟩
  | .hbm, ⟨38, _⟩ => ⟨S9x40x128, .f32⟩
  | .hbm, ⟨39, _⟩ => ⟨S9x5120, .f32⟩
  | .hbm, ⟨40, _⟩ => ⟨S5120x9, .f32⟩
  | .hbm, ⟨41, _⟩ => ⟨S5000x9, .f32⟩
  | .local _ .vmem, ⟨0, _⟩ => ⟨S9x40x128, .f32⟩
  | .local _ .vmem, ⟨1, _⟩ => ⟨S9x40x128, .f32⟩
  | .local _ .vmem, ⟨2, _⟩ => ⟨S40x128, .f32⟩
  | .local _ .vmem, ⟨3, _⟩ => ⟨S40x128, .f32⟩
  | _, _ => ⟨S5000x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1_0 : Ref sig .tc := ⟨.hbm, 6, rfl⟩
abbrev main_v3 : Ref sig .tc := ⟨.hbm, 7, rfl⟩
abbrev main_call1_c : Ref sig .tc := ⟨.hbm, 8, rfl⟩
abbrev main_call1_v0 : Ref sig .tc := ⟨.hbm, 9, rfl⟩
abbrev main_call1_v1 : Ref sig .tc := ⟨.hbm, 10, rfl⟩
abbrev main_call1_c_0 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_v5 : Ref sig .tc := ⟨.hbm, 15, rfl⟩
abbrev main_call1_c_1 : Ref sig .tc := ⟨.hbm, 16, rfl⟩
abbrev main_call1_c_2 : Ref sig .tc := ⟨.hbm, 17, rfl⟩
abbrev main_call1_v6 : Ref sig .tc := ⟨.hbm, 18, rfl⟩
abbrev main_call1_v7 : Ref sig .tc := ⟨.hbm, 19, rfl⟩
abbrev main_call1_v8 : Ref sig .tc := ⟨.hbm, 20, rfl⟩
abbrev main_call1_v9 : Ref sig .tc := ⟨.hbm, 21, rfl⟩
abbrev main_call1_v10 : Ref sig .tc := ⟨.hbm, 22, rfl⟩
abbrev main_call1_v11 : Ref sig .tc := ⟨.hbm, 23, rfl⟩
abbrev main_call1_c_3 : Ref sig .tc := ⟨.hbm, 24, rfl⟩
abbrev main_call1_v12 : Ref sig .tc := ⟨.hbm, 25, rfl⟩
abbrev main_call1_v13 : Ref sig .tc := ⟨.hbm, 26, rfl⟩
abbrev main_call1_v14 : Ref sig .tc := ⟨.hbm, 27, rfl⟩
abbrev main_call1_cst : Ref sig .tc := ⟨.hbm, 28, rfl⟩
abbrev main_call1_v15 : Ref sig .tc := ⟨.hbm, 29, rfl⟩
abbrev main_v4 : Ref sig .tc := ⟨.hbm, 30, rfl⟩
abbrev main_cst_0 : Ref sig .tc := ⟨.hbm, 31, rfl⟩
abbrev main_v5 : Ref sig .tc := ⟨.hbm, 32, rfl⟩
abbrev main_c : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c5000_i32 : BitVec 32 := 5000#32
  let v27 : BitVec 32 := Scalar.addi c0_i32 c5000_i32
  let c1_i32 : BitVec 32 := 1#32
  ⟨c0_i32, v27, c1_i32⟩
abbrev stage0_0 : Fin 1 → Memref sig .tc .vmem S9x40x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9x40x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S5000x9 : Shape := ⟨2, ![5000, 9]⟩
abbrev S5000x4 : Shape := ⟨2, ![5000, 4]⟩
abbrev S_ : Shape := ⟨0, ![]⟩
abbrev S5000 : Shape := ⟨1, ![5000]⟩
abbrev S5000x1 : Shape := ⟨2, ![5000, 1]⟩
abbrev S1 : Shape := ⟨1, ![1]⟩
abbrev S1x1 : Shape := ⟨2, ![1, 1]⟩

abbrev nBuf : Space → Nat
  | .hbm => 218
  | .vmem => 0
  | .smem => 0
  | _ => 0

abbrev hbmTy0_0 (i : Nat) : BufTy := match i % 128 with
  | 0 => ⟨S5000x9, .f32⟩
  | 1 => ⟨S5000x4, .f32⟩
  | 2 => ⟨S_, .f32⟩
  | 3 => ⟨S5000, .f32⟩
  | 4 => ⟨S5000, .f32⟩
  | 5 => ⟨S5000, .i32⟩
  | 6 => ⟨S5000, .f32⟩
  | 7 => ⟨S5000, .i32⟩
  | 8 => ⟨S_, .i32⟩
  | 9 => ⟨S5000, .i32⟩
  | 10 => ⟨S5000, .i1⟩
  | 11 => ⟨S_, .i32⟩
  | 12 => ⟨S5000, .i32⟩
  | 13 => ⟨S5000, .i32⟩
  | 14 => ⟨S5000, .i32⟩
  | 15 => ⟨S5000x1, .i32⟩
  | 16 => ⟨S1, .i32⟩
  | 17 => ⟨S_, .i32⟩
  | 18 => ⟨S5000x1, .i32⟩
  | 19 => ⟨S5000x1, .i1⟩
  | 20 => ⟨S1x1, .i32⟩
  | 21 => ⟨S5000x1, .i32⟩
  | 22 => ⟨S5000x1, .i1⟩
  | 23 => ⟨S5000x1, .i1⟩
  | 24 => ⟨S_, .i1⟩
  | 25 => ⟨S5000, .i1⟩
  | 26 => ⟨S5000x9, .f32⟩
  | 27 => ⟨S5000x9, .i1⟩
  | 28 => ⟨S_, .f32⟩
  | 29 => ⟨S5000x9, .f32⟩
  | 30 => ⟨S5000x9, .f32⟩
  | 31 => ⟨S5000x4, .f32⟩
  | 32 => ⟨S5000x1, .f32⟩
  | 33 => ⟨S5000, .f32⟩
  | 34 => ⟨S5000x1, .f32⟩
  | 35 => ⟨S5000, .f32⟩
  | 36 => ⟨S5000x1, .f32⟩
  | 37 => ⟨S5000, .f32⟩
  | 38 => ⟨S5000x1, .f32⟩
  | 39 => ⟨S5000, .f32⟩
  | 40 => ⟨S5000, .f32⟩
  | 41 => ⟨S_, .f32⟩
  | 42 => ⟨S5000, .f32⟩
  | 43 => ⟨S5000, .f32⟩
  | 44 => ⟨S5000, .f32⟩
  | 45 => ⟨S_, .f32⟩
  | 46 => ⟨S5000, .f32⟩
  | 47 => ⟨S5000, .f32⟩
  | 48 => ⟨S5000, .f32⟩
  | 49 => ⟨S5000, .i32⟩
  | 50 => ⟨S_, .i1⟩
  | 51 => ⟨S5000, .i1⟩
  | 52 => ⟨S_, .i32⟩
  | 53 => ⟨S_, .i32⟩
  | 54 => ⟨S5000, .f32⟩
  | 55 => ⟨S5000, .f32⟩
  | 56 => ⟨S5000, .f32⟩
  | 57 => ⟨S5000, .f32⟩
  | 58 => ⟨S5000, .f32⟩
  | 59 => ⟨S5000, .i32⟩
  | 60 => ⟨S_, .i32⟩
  | 61 => ⟨S_, .i32⟩
  | 62 => ⟨S5000, .i1⟩
  | 63 => ⟨S_, .i32⟩
  | 64 => ⟨S_, .i1⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S1, .f32⟩
  | 74 => ⟨S_, .f32⟩
  | 75 => ⟨S5000, .f32⟩
  | 76 => ⟨S5000, .f32⟩
  | 77 => ⟨S_, .i32⟩
  | 78 => ⟨S_, .i1⟩
  | 79 => ⟨S_, .i32⟩
  | 80 => ⟨S_, .i32⟩
  | 81 => ⟨S_, .i32⟩
  | 82 => ⟨S_, .i32⟩
  | 83 => ⟨S1, .f32⟩
  | 84 => ⟨S_, .f32⟩
  | 85 => ⟨S5000, .f32⟩
  | 86 => ⟨S5000, .f32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S1, .f32⟩
  | 94 => ⟨S_, .f32⟩
  | 95 => ⟨S5000, .f32⟩
  | 96 => ⟨S5000, .f32⟩
  | 97 => ⟨S_, .i32⟩
  | 98 => ⟨S_, .i1⟩
  | 99 => ⟨S_, .i32⟩
  | 100 => ⟨S_, .i32⟩
  | 101 => ⟨S_, .i32⟩
  | 102 => ⟨S_, .i32⟩
  | 103 => ⟨S1, .f32⟩
  | 104 => ⟨S_, .f32⟩
  | 105 => ⟨S5000, .f32⟩
  | 106 => ⟨S5000, .f32⟩
  | 107 => ⟨S5000, .f32⟩
  | 108 => ⟨S_, .f32⟩
  | 109 => ⟨S5000, .f32⟩
  | 110 => ⟨S5000, .f32⟩
  | 111 => ⟨S5000, .f32⟩
  | 112 => ⟨S_, .f32⟩
  | 113 => ⟨S5000, .f32⟩
  | 114 => ⟨S5000, .f32⟩
  | 115 => ⟨S5000, .f32⟩
  | 116 => ⟨S_, .i32⟩
  | 117 => ⟨S_, .i1⟩
  | 118 => ⟨S_, .i32⟩
  | 119 => ⟨S_, .i32⟩
  | 120 => ⟨S_, .i32⟩
  | 121 => ⟨S_, .i32⟩
  | 122 => ⟨S1, .f32⟩
  | 123 => ⟨S_, .f32⟩
  | 124 => ⟨S5000, .f32⟩
  | 125 => ⟨S5000, .f32⟩
  | 126 => ⟨S5000, .f32⟩
  | 127 => ⟨S_, .f32⟩
  | _ => ⟨S5000x9, .f32⟩

abbrev hbmTy0_1 (i : Nat) : BufTy := match i % 128 with
  | 0 => ⟨S5000, .f32⟩
  | 1 => ⟨S5000, .f32⟩
  | 2 => ⟨S5000, .f32⟩
  | 3 => ⟨S_, .f32⟩
  | 4 => ⟨S5000, .f32⟩
  | 5 => ⟨S5000, .i1⟩
  | 6 => ⟨S_, .i32⟩
  | 7 => ⟨S5000, .i32⟩
  | 8 => ⟨S5000, .i1⟩
  | 9 => ⟨S5000, .i1⟩
  | 10 => ⟨S_, .i32⟩
  | 11 => ⟨S_, .i1⟩
  | 12 => ⟨S_, .i32⟩
  | 13 => ⟨S_, .i32⟩
  | 14 => ⟨S_, .i32⟩
  | 15 => ⟨S_, .i32⟩
  | 16 => ⟨S1, .i1⟩
  | 17 => ⟨S_, .i1⟩
  | 18 => ⟨S5000, .i1⟩
  | 19 => ⟨S5000, .i1⟩
  | 20 => ⟨S5000, .i1⟩
  | 21 => ⟨S5000, .i1⟩
  | 22 => ⟨S_, .i32⟩
  | 23 => ⟨S_, .i32⟩
  | 24 => ⟨S5000x1, .f32⟩
  | 25 => ⟨S5000, .f32⟩
  | 26 => ⟨S5000x1, .f32⟩
  | 27 => ⟨S5000, .f32⟩
  | 28 => ⟨S5000, .f32⟩
  | 29 => ⟨S5000x1, .f32⟩
  | 30 => ⟨S5000, .f32⟩
  | 31 => ⟨S5000x1, .f32⟩
  | 32 => ⟨S5000, .f32⟩
  | 33 => ⟨S5000, .f32⟩
  | 34 => ⟨S_, .f32⟩
  | 35 => ⟨S5000, .f32⟩
  | 36 => ⟨S5000, .i1⟩
  | 37 => ⟨S_, .f32⟩
  | 38 => ⟨S5000, .f32⟩
  | 39 => ⟨S5000, .f32⟩
  | 40 => ⟨S5000, .f32⟩
  | 41 => ⟨S_, .f32⟩
  | 42 => ⟨S_, .f32⟩
  | 43 => ⟨S5000, .f32⟩
  | 44 => ⟨S5000, .f32⟩
  | 45 => ⟨S_, .f32⟩
  | 46 => ⟨S5000, .f32⟩
  | 47 => ⟨S5000, .i1⟩
  | 48 => ⟨S_, .f32⟩
  | 49 => ⟨S5000, .f32⟩
  | 50 => ⟨S5000, .i1⟩
  | 51 => ⟨S5000, .i1⟩
  | 52 => ⟨S_, .f32⟩
  | 53 => ⟨S5000, .f32⟩
  | 54 => ⟨S5000, .i1⟩
  | 55 => ⟨S5000, .i1⟩
  | 56 => ⟨S_, .f32⟩
  | 57 => ⟨S5000, .f32⟩
  | 58 => ⟨S5000, .i1⟩
  | 59 => ⟨S5000, .i1⟩
  | 60 => ⟨S_, .f32⟩
  | 61 => ⟨S5000, .f32⟩
  | 62 => ⟨S5000, .i1⟩
  | 63 => ⟨S5000, .i1⟩
  | 64 => ⟨S_, .f32⟩
  | 65 => ⟨S5000, .f32⟩
  | 66 => ⟨S5000, .i1⟩
  | 67 => ⟨S5000, .i1⟩
  | 68 => ⟨S5000x4, .f32⟩
  | 69 => ⟨S_, .f32⟩
  | 70 => ⟨S5000, .f32⟩
  | 71 => ⟨S_, .f32⟩
  | 72 => ⟨S5000, .f32⟩
  | 73 => ⟨S5000, .i1⟩
  | 74 => ⟨S5000x4, .f32⟩
  | 75 => ⟨S5000x4, .i32⟩
  | 76 => ⟨S_, .f32⟩
  | 77 => ⟨S_, .i32⟩
  | 78 => ⟨S5000, .f32⟩
  | 79 => ⟨S5000, .i32⟩
  | 80 => ⟨S_, .i32⟩
  | 81 => ⟨S5000, .i32⟩
  | 82 => ⟨S5000, .i1⟩
  | 83 => ⟨S5000, .i1⟩
  | 84 => ⟨S5000, .i1⟩
  | 85 => ⟨S5000, .i1⟩
  | 86 => ⟨S5000x1, .i1⟩
  | 87 => ⟨S5000x1, .f32⟩
  | 88 => ⟨S5000x9, .f32⟩
  | 89 => ⟨S5000x9, .f32⟩
  | _ => ⟨S5000x9, .f32⟩

abbrev hbmTy (i : Nat) : BufTy := match i / 128 with
  | 0 => hbmTy0_0 i
  | 1 => hbmTy0_1 i
  | _ => ⟨S5000x9, .f32⟩

abbrev bufTy : (tb : Table) → Fin (tcTables nBuf tb) → BufTy
  | .hbm, ⟨i, _⟩ => hbmTy i
  | _, _ => ⟨S5000x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1_0 : Ref sig .tc := ⟨.hbm, 6, rfl⟩
abbrev main_v3 : Ref sig .tc := ⟨.hbm, 7, rfl⟩
abbrev main_call1_c : Ref sig .tc := ⟨.hbm, 8, rfl⟩
abbrev main_call1_v0 : Ref sig .tc := ⟨.hbm, 9, rfl⟩
abbrev main_call1_v1 : Ref sig .tc := ⟨.hbm, 10, rfl⟩
abbrev main_call1_c_0 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_v5 : Ref sig .tc := ⟨.hbm, 15, rfl⟩
abbrev main_call1_c_1 : Ref sig .tc := ⟨.hbm, 16, rfl⟩
abbrev main_call1_c_2 : Ref sig .tc := ⟨.hbm, 17, rfl⟩
abbrev main_call1_v6 : Ref sig .tc := ⟨.hbm, 18, rfl⟩
abbrev main_call1_v7 : Ref sig .tc := ⟨.hbm, 19, rfl⟩
abbrev main_call1_v8 : Ref sig .tc := ⟨.hbm, 20, rfl⟩
abbrev main_call1_v9 : Ref sig .tc := ⟨.hbm, 21, rfl⟩
abbrev main_call1_v10 : Ref sig .tc := ⟨.hbm, 22, rfl⟩
abbrev main_call1_v11 : Ref sig .tc := ⟨.hbm, 23, rfl⟩
abbrev main_call1_c_3 : Ref sig .tc := ⟨.hbm, 24, rfl⟩
abbrev main_call1_v12 : Ref sig .tc := ⟨.hbm, 25, rfl⟩
abbrev main_call1_v13 : Ref sig .tc := ⟨.hbm, 26, rfl⟩
abbrev main_call1_v14 : Ref sig .tc := ⟨.hbm, 27, rfl⟩
abbrev main_call1_cst : Ref sig .tc := ⟨.hbm, 28, rfl⟩
abbrev main_call1_v15 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_cst_0 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_1 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_c : Ref sig .tc := ⟨.hbm, 50, rfl⟩
abbrev main_v22 : Ref sig .tc := ⟨.hbm, 51, rfl⟩
abbrev main_c_2 : Ref sig .tc := ⟨.hbm, 52, rfl⟩
abbrev main_c_3 : Ref sig .tc := ⟨.hbm, 53, rfl⟩
abbrev main_v23_0 : Ref sig .tc := ⟨.hbm, 54, rfl⟩
abbrev main_v23_1 : Ref sig .tc := ⟨.hbm, 55, rfl⟩
abbrev main_v23_2 : Ref sig .tc := ⟨.hbm, 56, rfl⟩
abbrev main_v23_3 : Ref sig .tc := ⟨.hbm, 57, rfl⟩
abbrev main_v23_4 : Ref sig .tc := ⟨.hbm, 58, rfl⟩
abbrev main_v23_5 : Ref sig .tc := ⟨.hbm, 59, rfl⟩
abbrev main_v23_6 : Ref sig .tc := ⟨.hbm, 60, rfl⟩
abbrev main_v23_7 : Ref sig .tc := ⟨.hbm, 61, rfl⟩
abbrev main_v23_8 : Ref sig .tc := ⟨.hbm, 62, rfl⟩
abbrev main_while0c_c_24 : Ref sig .tc := ⟨.hbm, 63, rfl⟩
abbrev main_while0c_v72 : Ref sig .tc := ⟨.hbm, 64, rfl⟩
abbrev main_while0b_c_24 : Ref sig .tc := ⟨.hbm, 65, rfl⟩
abbrev main_while0b_v72 : Ref sig .tc := ⟨.hbm, 66, rfl⟩
abbrev main_while0b_c_25 : Ref sig .tc := ⟨.hbm, 67, rfl⟩
abbrev main_while0b_v73 : Ref sig .tc := ⟨.hbm, 68, rfl⟩
abbrev main_while0b_v74 : Ref sig .tc := ⟨.hbm, 69, rfl⟩
abbrev main_while0b_c_26 : Ref sig .tc := ⟨.hbm, 70, rfl⟩
abbrev main_while0b_v75 : Ref sig .tc := ⟨.hbm, 71, rfl⟩
abbrev main_while0b_v76 : Ref sig .tc := ⟨.hbm, 72, rfl⟩
abbrev main_while0b_v77 : Ref sig .tc := ⟨.hbm, 73, rfl⟩
abbrev main_while0b_v78 : Ref sig .tc := ⟨.hbm, 74, rfl⟩
abbrev main_while0b_v79 : Ref sig .tc := ⟨.hbm, 75, rfl⟩
abbrev main_while0b_v80 : Ref sig .tc := ⟨.hbm, 76, rfl⟩
abbrev main_while0b_c_27 : Ref sig .tc := ⟨.hbm, 77, rfl⟩
abbrev main_while0b_v81 : Ref sig .tc := ⟨.hbm, 78, rfl⟩
abbrev main_while0b_v82 : Ref sig .tc := ⟨.hbm, 79, rfl⟩
abbrev main_while0b_c_28 : Ref sig .tc := ⟨.hbm, 80, rfl⟩
abbrev main_while0b_v83 : Ref sig .tc := ⟨.hbm, 81, rfl⟩
abbrev main_while0b_v84 : Ref sig .tc := ⟨.hbm, 82, rfl⟩
abbrev main_while0b_v85 : Ref sig .tc := ⟨.hbm, 83, rfl⟩
abbrev main_while0b_v86 : Ref sig .tc := ⟨.hbm, 84, rfl⟩
abbrev main_while0b_v87 : Ref sig .tc := ⟨.hbm, 85, rfl⟩
abbrev main_while0b_v88 : Ref sig .tc := ⟨.hbm, 86, rfl⟩
abbrev main_while0b_c_29 : Ref sig .tc := ⟨.hbm, 87, rfl⟩
abbrev main_while0b_v89 : Ref sig .tc := ⟨.hbm, 88, rfl⟩
abbrev main_while0b_v90 : Ref sig .tc := ⟨.hbm, 89, rfl⟩
abbrev main_while0b_c_30 : Ref sig .tc := ⟨.hbm, 90, rfl⟩
abbrev main_while0b_v91 : Ref sig .tc := ⟨.hbm, 91, rfl⟩
abbrev main_while0b_v92 : Ref sig .tc := ⟨.hbm, 92, rfl⟩
abbrev main_while0b_v93 : Ref sig .tc := ⟨.hbm, 93, rfl⟩
abbrev main_while0b_v94 : Ref sig .tc := ⟨.hbm, 94, rfl⟩
abbrev main_while0b_v95 : Ref sig .tc := ⟨.hbm, 95, rfl⟩
abbrev main_while0b_v96 : Ref sig .tc := ⟨.hbm, 96, rfl⟩
abbrev main_while0b_c_31 : Ref sig .tc := ⟨.hbm, 97, rfl⟩
abbrev main_while0b_v97 : Ref sig .tc := ⟨.hbm, 98, rfl⟩
abbrev main_while0b_v98 : Ref sig .tc := ⟨.hbm, 99, rfl⟩
abbrev main_while0b_c_32 : Ref sig .tc := ⟨.hbm, 100, rfl⟩
abbrev main_while0b_v99 : Ref sig .tc := ⟨.hbm, 101, rfl⟩
abbrev main_while0b_v100 : Ref sig .tc := ⟨.hbm, 102, rfl⟩
abbrev main_while0b_v101 : Ref sig .tc := ⟨.hbm, 103, rfl⟩
abbrev main_while0b_v102 : Ref sig .tc := ⟨.hbm, 104, rfl⟩
abbrev main_while0b_v103 : Ref sig .tc := ⟨.hbm, 105, rfl⟩
abbrev main_while0b_v104 : Ref sig .tc := ⟨.hbm, 106, rfl⟩
abbrev main_while0b_v105 : Ref sig .tc := ⟨.hbm, 107, rfl⟩
abbrev main_while0b_cst_33 : Ref sig .tc := ⟨.hbm, 108, rfl⟩
abbrev main_while0b_v106 : Ref sig .tc := ⟨.hbm, 109, rfl⟩
abbrev main_while0b_v107 : Ref sig .tc := ⟨.hbm, 110, rfl⟩
abbrev main_while0b_v108 : Ref sig .tc := ⟨.hbm, 111, rfl⟩
abbrev main_while0b_cst_34 : Ref sig .tc := ⟨.hbm, 112, rfl⟩
abbrev main_while0b_v109 : Ref sig .tc := ⟨.hbm, 113, rfl⟩
abbrev main_while0b_v110 : Ref sig .tc := ⟨.hbm, 114, rfl⟩
abbrev main_while0b_v111 : Ref sig .tc := ⟨.hbm, 115, rfl⟩
abbrev main_while0b_c_35 : Ref sig .tc := ⟨.hbm, 116, rfl⟩
abbrev main_while0b_v112 : Ref sig .tc := ⟨.hbm, 117, rfl⟩
abbrev main_while0b_v113 : Ref sig .tc := ⟨.hbm, 118, rfl⟩
abbrev main_while0b_c_36 : Ref sig .tc := ⟨.hbm, 119, rfl⟩
abbrev main_while0b_v114 : Ref sig .tc := ⟨.hbm, 120, rfl⟩
abbrev main_while0b_v115 : Ref sig .tc := ⟨.hbm, 121, rfl⟩
abbrev main_while0b_v116 : Ref sig .tc := ⟨.hbm, 122, rfl⟩
abbrev main_while0b_v117 : Ref sig .tc := ⟨.hbm, 123, rfl⟩
abbrev main_while0b_v118 : Ref sig .tc := ⟨.hbm, 124, rfl⟩
abbrev main_while0b_v119 : Ref sig .tc := ⟨.hbm, 125, rfl⟩
abbrev main_while0b_v120 : Ref sig .tc := ⟨.hbm, 126, rfl⟩
abbrev main_while0b_cst_37 : Ref sig .tc := ⟨.hbm, 127, rfl⟩
abbrev main_while0b_v121 : Ref sig .tc := ⟨.hbm, 128, rfl⟩
abbrev main_while0b_v122 : Ref sig .tc := ⟨.hbm, 129, rfl⟩
abbrev main_while0b_v123 : Ref sig .tc := ⟨.hbm, 130, rfl⟩
abbrev main_while0b_cst_38 : Ref sig .tc := ⟨.hbm, 131, rfl⟩
abbrev main_while0b_v124 : Ref sig .tc := ⟨.hbm, 132, rfl⟩
abbrev main_while0b_v125 : Ref sig .tc := ⟨.hbm, 133, rfl⟩
abbrev main_while0b_v126 : Ref sig .tc := ⟨.hbm, 134, rfl⟩
abbrev main_while0b_v127 : Ref sig .tc := ⟨.hbm, 135, rfl⟩
abbrev main_while0b_v128 : Ref sig .tc := ⟨.hbm, 136, rfl⟩
abbrev main_while0b_v129 : Ref sig .tc := ⟨.hbm, 137, rfl⟩
abbrev main_while0b_c_39 : Ref sig .tc := ⟨.hbm, 138, rfl⟩
abbrev main_while0b_v130 : Ref sig .tc := ⟨.hbm, 139, rfl⟩
abbrev main_while0b_v131 : Ref sig .tc := ⟨.hbm, 140, rfl⟩
abbrev main_while0b_c_40 : Ref sig .tc := ⟨.hbm, 141, rfl⟩
abbrev main_while0b_v132 : Ref sig .tc := ⟨.hbm, 142, rfl⟩
abbrev main_while0b_v133 : Ref sig .tc := ⟨.hbm, 143, rfl⟩
abbrev main_while0b_v134 : Ref sig .tc := ⟨.hbm, 144, rfl⟩
abbrev main_while0b_v135 : Ref sig .tc := ⟨.hbm, 145, rfl⟩
abbrev main_while0b_v136 : Ref sig .tc := ⟨.hbm, 146, rfl⟩
abbrev main_while0b_v137 : Ref sig .tc := ⟨.hbm, 147, rfl⟩
abbrev main_while0b_v138 : Ref sig .tc := ⟨.hbm, 148, rfl⟩
abbrev main_while0b_v139 : Ref sig .tc := ⟨.hbm, 149, rfl⟩
abbrev main_while0b_c_41 : Ref sig .tc := ⟨.hbm, 150, rfl⟩
abbrev main_while0b_v140 : Ref sig .tc := ⟨.hbm, 151, rfl⟩
abbrev main_v24 : Ref sig .tc := ⟨.hbm, 152, rfl⟩
abbrev main_v25 : Ref sig .tc := ⟨.hbm, 153, rfl⟩
abbrev main_v26 : Ref sig .tc := ⟨.hbm, 154, rfl⟩
abbrev main_v27 : Ref sig .tc := ⟨.hbm, 155, rfl⟩
abbrev main_v28 : Ref sig .tc := ⟨.hbm, 156, rfl⟩
abbrev main_v29 : Ref sig .tc := ⟨.hbm, 157, rfl⟩
abbrev main_v30 : Ref sig .tc := ⟨.hbm, 158, rfl⟩
abbrev main_v31 : Ref sig .tc := ⟨.hbm, 159, rfl⟩
abbrev main_v32 : Ref sig .tc := ⟨.hbm, 160, rfl⟩
abbrev main_v33 : Ref sig .tc := ⟨.hbm, 161, rfl⟩
abbrev main_cst_4 : Ref sig .tc := ⟨.hbm, 162, rfl⟩
abbrev main_v34 : Ref sig .tc := ⟨.hbm, 163, rfl⟩
abbrev main_v35 : Ref sig .tc := ⟨.hbm, 164, rfl⟩
abbrev main_cst_5 : Ref sig .tc := ⟨.hbm, 165, rfl⟩
abbrev main_v36 : Ref sig .tc := ⟨.hbm, 166, rfl⟩
abbrev main_v37 : Ref sig .tc := ⟨.hbm, 167, rfl⟩
abbrev main_v38 : Ref sig .tc := ⟨.hbm, 168, rfl⟩
abbrev main_cst_6 : Ref sig .tc := ⟨.hbm, 169, rfl⟩
abbrev main_call2_v0 : Ref sig .tc := ⟨.hbm, 170, rfl⟩
abbrev main_call2_v1 : Ref sig .tc := ⟨.hbm, 171, rfl⟩
abbrev main_v39 : Ref sig .tc := ⟨.hbm, 172, rfl⟩
abbrev main_cst_7 : Ref sig .tc := ⟨.hbm, 173, rfl⟩
abbrev main_v40 : Ref sig .tc := ⟨.hbm, 174, rfl⟩
abbrev main_v41 : Ref sig .tc := ⟨.hbm, 175, rfl⟩
abbrev main_cst_8 : Ref sig .tc := ⟨.hbm, 176, rfl⟩
abbrev main_v42 : Ref sig .tc := ⟨.hbm, 177, rfl⟩
abbrev main_v43 : Ref sig .tc := ⟨.hbm, 178, rfl⟩
abbrev main_v44 : Ref sig .tc := ⟨.hbm, 179, rfl⟩
abbrev main_cst_9 : Ref sig .tc := ⟨.hbm, 180, rfl⟩
abbrev main_v45 : Ref sig .tc := ⟨.hbm, 181, rfl⟩
abbrev main_v46 : Ref sig .tc := ⟨.hbm, 182, rfl⟩
abbrev main_v47 : Ref sig .tc := ⟨.hbm, 183, rfl⟩
abbrev main_cst_10 : Ref sig .tc := ⟨.hbm, 184, rfl⟩
abbrev main_v48 : Ref sig .tc := ⟨.hbm, 185, rfl⟩
abbrev main_v49 : Ref sig .tc := ⟨.hbm, 186, rfl⟩
abbrev main_v50 : Ref sig .tc := ⟨.hbm, 187, rfl⟩
abbrev main_cst_11 : Ref sig .tc := ⟨.hbm, 188, rfl⟩
abbrev main_v51 : Ref sig .tc := ⟨.hbm, 189, rfl⟩
abbrev main_v52 : Ref sig .tc := ⟨.hbm, 190, rfl⟩
abbrev main_v53 : Ref sig .tc := ⟨.hbm, 191, rfl⟩
abbrev main_cst_12 : Ref sig .tc := ⟨.hbm, 192, rfl⟩
abbrev main_v54 : Ref sig .tc := ⟨.hbm, 193, rfl⟩
abbrev main_v55 : Ref sig .tc := ⟨.hbm, 194, rfl⟩
abbrev main_v56 : Ref sig .tc := ⟨.hbm, 195, rfl⟩
abbrev main_v57 : Ref sig .tc := ⟨.hbm, 196, rfl⟩
abbrev main_cst_13 : Ref sig .tc := ⟨.hbm, 197, rfl⟩
abbrev main_v58 : Ref sig .tc := ⟨.hbm, 198, rfl⟩
abbrev main_cst_14 : Ref sig .tc := ⟨.hbm, 199, rfl⟩
abbrev main_v59 : Ref sig .tc := ⟨.hbm, 200, rfl⟩
abbrev main_v60 : Ref sig .tc := ⟨.hbm, 201, rfl⟩
abbrev main_v61 : Ref sig .tc := ⟨.hbm, 202, rfl⟩
abbrev main_call3_v0 : Ref sig .tc := ⟨.hbm, 203, rfl⟩
abbrev main_call3_cst : Ref sig .tc := ⟨.hbm, 204, rfl⟩
abbrev main_call3_c : Ref sig .tc := ⟨.hbm, 205, rfl⟩
abbrev main_call3_v1_0 : Ref sig .tc := ⟨.hbm, 206, rfl⟩
abbrev main_v62 : Ref sig .tc := ⟨.hbm, 207, rfl⟩
abbrev main_c_15 : Ref sig .tc := ⟨.hbm, 208, rfl⟩
abbrev main_v63 : Ref sig .tc := ⟨.hbm, 209, rfl⟩
abbrev main_v64 : Ref sig .tc := ⟨.hbm, 210, rfl⟩
abbrev main_v65 : Ref sig .tc := ⟨.hbm, 211, rfl⟩
abbrev main_v66 : Ref sig .tc := ⟨.hbm, 212, rfl⟩
abbrev main_v67 : Ref sig .tc := ⟨.hbm, 213, rfl⟩
abbrev main_v68 : Ref sig .tc := ⟨.hbm, 214, rfl⟩
abbrev main_v69 : Ref sig .tc := ⟨.hbm, 215, rfl⟩
abbrev main_v70 : Ref sig .tc := ⟨.hbm, 216, rfl⟩
abbrev main_v71 : Ref sig .tc := ⟨.hbm, 217, rfl⟩

abbrev nD : Nat := 1
abbrev τ : Topo := Topo.v7x

variable {F : FTy → Type} [FloatOps F]

abbrev main_while0_count : Scf.Loop 32 := ⟨0#32, 5000#32, 1#32⟩
-- ==== Proof.KernelIdealTrip.lean ====
/-
  One trip of the suppression loop of the idealized kernel, and the loop's invariant.

  The kernel keeps one word per detection (`act`, a 40 by 128 array held in a scratch buffer): one while the detection
  is still kept, zero once a detection of higher score has suppressed it. Trip `k` reads the word of detection `k`
  and, when it is still positive, clears the word of every later detection that overlaps it too much.
-/
module

public import proofs.«01_k».proof.Proof.Gen.KernelIdeal.Loops
public import proofs.«01_k».proof.Proof.Gen.KernelIdeal.Frame
public import Idealize.ShloMosaic.Lib.Pipeline.Value

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The whole of a 40 by 128 buffer. -/
abbrev rAct : Rect S40x128 := Rect.unit (s := S40x128) ![0, 0] S40x128.size inb_S40x128_S40x128_0_0

/-- Whether trip `k` finds detection `k` still kept, from the words `a`. -/
def live (k : Fin k0_t1_loop.trips) (a : Vec F S40x128 .f32) : BitVec 1 :=
  Scalar.cmpi .ne ((Scalar.extui (Scalar.cmpf .ogt (k0_pay13 k a) (Scalar.ofBits .f32 0x00000000#32))) : BitVec 32) 0#32

/-- The words after trip `k`'s suppression, from the corners `v0 v2 v4 v6` of the boxes and the words `a`. -/
def cleared (v0 v2 v4 v6 : Vec F S1x40x128 .f32) (k : Fin k0_t1_loop.trips) (a : Vec F S40x128 .f32) : Vec F S40x128 .f32 :=
  k0_pay14 k (k0_pay2 (k0_pay4 v0) (k0_pay5 v2) (k0_pay6 v4) (k0_pay7 v6) (k0_pay12 k))
    (k0_pay3 (k0_pay4 v0) (k0_pay5 v2) (k0_pay6 v4) (k0_pay7 v6) (k0_pay8 v0 v2 v4 v6) (k0_pay12 k)) a

/-- The words after trip `k`: cleared where detection `k` suppresses, unchanged when `k` is itself suppressed. -/
def trip (v0 v2 v4 v6 : Vec F S1x40x128 .f32) (k : Fin k0_t1_loop.trips) (a : Vec F S40x128 .f32) : Vec F S40x128 .f32 :=
  if live k a = 1#1 then cleared v0 v2 v4 v6 k a else a

/-- The words before trip `k`: all ones before the first. -/
def act (v0 v2 v4 v6 : Vec F S1x40x128 .f32) : ℕ → Vec F S40x128 .f32
  | 0 => k0_pay10
  | k + 1 => if h : k < k0_t1_loop.trips then trip v0 v2 v4 v6 ⟨k, h⟩ (act v0 v2 v4 v6 k) else act v0 v2 v4 v6 k

/-- A whole-buffer load of the words reads what the buffer holds. -/
theorem ld_act (x : Vec F S40x128 .f32) : View.ld x rAct = x := View.ld_unit_zero (funext fun a => by fin_cases a <;> rfl) _ x

/-- A buffer overwritten whole reads as what was stored. -/
theorem read_act (M : Memref sig .tc .vmem S40x128 .f32) (c : Dev nD) (f : Buf (Elt F) (M.view.loc (c : Thread nD τ))) (x : Vec F S40x128 .f32) :
    M.view.read (Elt F) (M.view.writes (Elt F) f [⟨rAct, x⟩]) = x :=
  (View.read_writes_eq_canon _ _ _ (View.cover_of_tiled _ S40x128.size (by rfl))).trans
    (View.canon_unit_zero (funext fun a => by fin_cases a <;> rfl) _ x)

variable (c : Dev nD) (arg0 : Memref sig .tc .vmem S9x40x128 .f32) (harg0 : arg0.IsWhole) (arg1 : Memref sig .tc .vmem S9x40x128 .f32) (harg1 : arg1.IsWhole)
  (arg2 : Memref sig .tc .vmem S40x128 .f32) (harg2 : arg2.IsWhole) (arg3 : Memref sig .tc .vmem S40x128 .f32) (harg3 : arg3.IsWhole)
  (v0 v2 v4 v6 : Vec F S1x40x128 .f32)

/-- The scratch buffer's contents before trip `k`, from those at the loop's entry. -/
def actBuf (f₀ : Buf (Elt F) (arg2.view.loc (c : Thread nD τ))) : ℕ → Buf (Elt F) (arg2.view.loc (c : Thread nD τ))
  | 0 => f₀
  | k + 1 =>
    if h : k < k0_t1_loop.trips then
      if _hc : live ⟨k, h⟩ (arg2.view.readAt (Elt F) rAct.toLoadRect (actBuf f₀ k)) = 1#1 then
        arg2.view.writes (Elt F) (actBuf f₀ k) [⟨rAct, cleared v0 v2 v4 v6 ⟨k, h⟩ (arg2.view.readAt (Elt F) rAct.toLoadRect (actBuf f₀ k))⟩]
      else actBuf f₀ k
    else actBuf f₀ k

/-- Entered at all ones, the scratch buffer reads as `act` before every trip. -/
theorem read_actBuf (f₀ : Buf (Elt F) (arg2.view.loc (c : Thread nD τ))) (h₀ : arg2.view.read (Elt F) f₀ = k0_pay10) (k : ℕ) :
    arg2.view.read (Elt F) (actBuf c arg2 v0 v2 v4 v6 f₀ k) = act v0 v2 v4 v6 k := by
  induction k with
  | zero => exact h₀
  | succ k ih =>
    have hr : arg2.view.readAt (Elt F) rAct.toLoadRect (actBuf c arg2 v0 v2 v4 v6 f₀ k) = act v0 v2 v4 v6 k := by
      rw [← ih]; exact ld_act _
    simp only [actBuf, act, trip, hr]
    split
    · split
      · exact read_act _ c _ _
      · exact ih
    · exact ih

set_option warn.classDefReducibility false in
/-- The loop's invariant: before trip `k` the scratch buffer holds `actBuf` of its contents at the loop's entry. -/
@[sl_loop] def loopInv_k0_t1 (f₀ : Buf (Elt F) (arg2.view.loc (c : Thread nD τ))) :
    LoopInvTy_k0_t1 (F := F) Unit ℕ (UR sig nD τ) ℕ Variants.none c none Set.univ arg0 harg0 arg1 harg1 arg2 harg2 arg3 harg3 v0 v2 v4 v6 where
  inv k _ := iprop(arg2.view.loc (c : Thread nD τ) ↦[arg2.view.set]{fullShare} (actBuf c arg2 v0 v2 v4 v6 f₀ k))
  step k _ := by
    have e : actBuf c arg2 v0 v2 v4 v6 f₀ (k.val + 1)
        = if _hc : live k (arg2.view.readAt (Elt F) rAct.toLoadRect (actBuf c arg2 v0 v2 v4 v6 f₀ k)) = 1#1 then
            arg2.view.writes (Elt F) (actBuf c arg2 v0 v2 v4 v6 f₀ k) [⟨rAct, cleared v0 v2 v4 v6 k (arg2.view.readAt (Elt F) rAct.toLoadRect (actBuf c arg2 v0 v2 v4 v6 f₀ k))⟩]
          else actBuf c arg2 v0 v2 v4 v6 f₀ k := by
      rw [actBuf, dif_pos k.isLt]
    rw [e]
    unfold k0_t1_body
    iintro H
    sl_exec
    sl_step
    unfold loopInv_k0_t1.sl.v143 loopInv_k0_t1.sl.r loopInv_k0_t1.sl.r_1 live cleared
    iexact H

end Cert.Proof.KernelIdeal

end
-- ==== Proof.KernelIdealBody.lean ====
/-
  What one run of the idealized kernel's body leaves in its result block, and the run of the body that leaves it.

  The body copies each of the nine rows of the transposed detections, every lane multiplied by one when its detection
  passes (still kept after the suppression loop, of an admissible size and shape, of a score high enough, and of a type
  other than the first) and by zero otherwise.
-/
module

public import proofs.«01_k».proof.Proof.KernelIdealTrip

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The rows of the block -/

/-- Channel 0 of the input block. -/
abbrev r0 : Rect S9x40x128 := Rect.unit (s := S9x40x128) ![0, 0, 0] S1x40x128.size inb_S9x40x128_S1x40x128_0_0_0
/-- Channel 1 of the input block. -/
abbrev r1 : Rect S9x40x128 := Rect.unit (s := S9x40x128) ![1, 0, 0] S1x40x128.size inb_S9x40x128_S1x40x128_1_0_0
/-- Channel 2 of the input block. -/
abbrev r2 : Rect S9x40x128 := Rect.unit (s := S9x40x128) ![2, 0, 0] S1x40x128.size inb_S9x40x128_S1x40x128_2_0_0
/-- Channel 3 of the input block. -/
abbrev r3 : Rect S9x40x128 := Rect.unit (s := S9x40x128) ![3, 0, 0] S1x40x128.size inb_S9x40x128_S1x40x128_3_0_0
/-- Channel 4 of the input block. -/
abbrev r4 : Rect S9x40x128 := Rect.unit (s := S9x40x128) ![4, 0, 0] S1x40x128.size inb_S9x40x128_S1x40x128_4_0_0
/-- Channel 5 of the input block. -/
abbrev r5 : Rect S9x40x128 := Rect.unit (s := S9x40x128) ![5, 0, 0] S1x40x128.size inb_S9x40x128_S1x40x128_5_0_0
/-- Channel 6 of the input block. -/
abbrev r6 : Rect S9x40x128 := Rect.unit (s := S9x40x128) ![6, 0, 0] S1x40x128.size inb_S9x40x128_S1x40x128_6_0_0
/-- Channel 7 of the input block. -/
abbrev r7 : Rect S9x40x128 := Rect.unit (s := S9x40x128) ![7, 0, 0] S1x40x128.size inb_S9x40x128_S1x40x128_7_0_0
/-- Channel 8 of the input block. -/
abbrev r8 : Rect S9x40x128 := Rect.unit (s := S9x40x128) ![8, 0, 0] S1x40x128.size inb_S9x40x128_S1x40x128_8_0_0

/-! ## What the body computes -/

/-- The words after the whole loop, from the block `x`: rows 1 to 4 hold the corners of the boxes. -/
def kept (x : Vec F S9x40x128 .f32) : Vec F S40x128 .f32 :=
  act (View.ld x r1) (View.ld x r2) (View.ld x r3) (View.ld x r4) k0_t1_loop.trips

/-- The mask the rows are multiplied by, from the block `x` and the words `a` left by the loop. -/
def maskOf (x : Vec F S9x40x128 .f32) (a : Vec F S40x128 .f32) : FVec F S40x128 .f32 :=
  k0_pay23 (k0_pay16 a k0_pay15) (k0_pay17 (k0_pay4 (View.ld x r1)) (k0_pay5 (View.ld x r2)) (k0_pay6 (View.ld x r3)) (k0_pay7 (View.ld x r4)))
    (k0_pay18 (View.ld x r5)) (k0_pay19 (View.ld x r6)) (k0_pay20 (View.ld x r7)) (k0_pay21 (View.ld x r8))
    (k0_pay22 (View.ld x r5) (View.ld x r6) (View.ld x r7) (View.ld x r8)) (Scalar.ofBits .f32 0x3E99999A#32)

/-- One row under the mask `M`. -/
def masked (M : FVec F S40x128 .f32) (v : Vec F S1x40x128 .f32) : FVec F S1x40x128 .f32 :=
  shapeCast S1x40x128 (mulf (shapeCast S40x128 v shapeCasts_S1x40x128_S40x128) M) shapeCasts_S40x128_S1x40x128

/-- The nine stores of the body, last first, from the block `x` and the mask `M`. -/
abbrev stores (x : Vec F S9x40x128 .f32) (M : FVec F S40x128 .f32) : List (View.Piece (Elt F) S9x40x128 .f32) :=
  [⟨r8, masked M (View.ld x r8)⟩, ⟨r7, masked M (View.ld x r7)⟩, ⟨r6, masked M (View.ld x r6)⟩,
   ⟨r5, masked M (View.ld x r5)⟩, ⟨r4, masked M (View.ld x r4)⟩, ⟨r3, masked M (View.ld x r3)⟩,
   ⟨r2, masked M (View.ld x r2)⟩, ⟨r1, masked M (View.ld x r1)⟩, ⟨r0, masked M (View.ld x r0)⟩]

/-- What the body leaves in the result block, from the block `x` of the detections. -/
def outBlock (x : Vec F S9x40x128 .f32) : Vec F S9x40x128 .f32 := View.canon (stores x (maskOf x (kept x)))

/-- The nine stores cover the result block. -/
theorem stores_cover (x : Vec F S9x40x128 .f32) (M : FVec F S40x128 .f32) (y : S9x40x128.Idx) :
    ∃ pc ∈ stores x M, y ∈ pc.1.set :=
  View.cover_of_tiled (stores x M) S1x40x128.size (by rfl) y

/-! ## The body's run -/

variable (c : Dev nD) (arg0 : Memref sig .tc .vmem S9x40x128 .f32) (harg0 : arg0.IsWhole) (arg1 : Memref sig .tc .vmem S9x40x128 .f32) (harg1 : arg1.IsWhole)
  (arg2 : Memref sig .tc .vmem S40x128 .f32) (harg2 : arg2.IsWhole) (arg3 : Memref sig .tc .vmem S40x128 .f32) (harg3 : arg3.IsWhole)

/-- The scratch buffer of the words after the loop, for the block `x`. -/
def endBuf (x : Vec F S9x40x128 .f32) : Buf (Elt F) (arg2.view.loc (c : Thread nD τ)) :=
  actBuf c arg2 (View.ld x r1) (View.ld x r2) (View.ld x r3) (View.ld x r4)
    (arg2.view.writes (Elt F) arg2.view.junk [⟨rAct, k0_pay10⟩]) k0_t1_loop.trips

/-- It reads as the words `kept x`. -/
theorem readAt_endBuf (x : Vec F S9x40x128 .f32) :
    arg2.view.readAt (Elt F) rAct.toLoadRect (endBuf c arg2 x) = kept x := by
  have h := read_actBuf c arg2 (View.ld x r1) (View.ld x r2) (View.ld x r3) (View.ld x r4)
    (arg2.view.writes (Elt F) arg2.view.junk [⟨rAct, k0_pay10⟩]) (read_act arg2 c _ _) k0_t1_loop.trips
  rw [kept, ← h]
  exact ld_act _

/-- The body, holding the detections' block at `x` and the other three buffers at anything, runs to the end and leaves
    `outBlock x` in the result block, the detections' block unchanged. -/
theorem body_run (x : Vec F S9x40x128 .f32) (K : PUnit → sProp 𝕄) :
    iprop(owns (c : Thread nD τ) arg0 fullShare x ∗ (∃ d, owns (c : Thread nD τ) arg1 fullShare d)
        ∗ (∃ d, owns (c : Thread nD τ) arg2 fullShare d) ∗ (∃ d, owns (c : Thread nD τ) arg3 fullShare d)
        ∗ (iprop(owns (c : Thread nD τ) arg0 fullShare x ∗ owns (c : Thread nD τ) arg1 fullShare (outBlock x)
            ∗ (∃ d, owns (c : Thread nD τ) arg2 fullShare d) ∗ (∃ d, owns (c : Thread nD τ) arg3 fullShare d)) -∗ K ⟨⟩))
      ⊢ wp frame (wpE (defs₀ (F := F)) Variants.none c none) Set.univ (cc0__nms_filter_kernel arg0 harg0 arg1 harg1 arg2 harg2 arg3 harg3) K := by
  simp only [cc0__nms_filter_kernel_eq_skeleton]; unfold cc0__nms_filter_kernel_skel
  unfold owns
  iintro ⟨⟨%f0, %hf0, H0⟩, ⟨%d1, %f1, -, H1⟩, ⟨%d2, %f2, -, H2⟩, ⟨%d3, %f3, -, H3⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (stores_cover (arg0.view.read (Elt F) f0)
      (maskOf (arg0.view.read (Elt F) f0) (arg2.view.readAt (Elt F) rAct.toLoadRect (endBuf c arg2 (arg0.view.read (Elt F) f0)))))).trans ?_
    rw [readAt_endBuf]; rfl
  isplitl [H2]
  · iexists _, _; isplitr
    swap; · iexact H2
    ipureintro; rfl
  iexists _, _; isplitr
  swap; · iexact H3
  ipureintro; rfl

end Cert.Proof.KernelIdeal

end
-- ==== Proof.KernelIdealRun.lean ====
/-
  The run of the idealized kernel's @main: the host operations before the kernel call, the call, and the three host
  operations after it. Every execution ends; the argument is unchanged, every semaphore counter is back at zero, and
  each buffer holds what the host operations compute from the result block.
-/
module

public import proofs.«01_k».proof.Proof.KernelIdealBody
public import Idealize.ShloMosaic.Lib.Claim

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What each window's buffer holds after the body: the detections' block as it was, the result block `outBlock` of it.
    The scratch buffers and the generator register are left at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outBlock (iblk m c 0 t)
  Φ _ := Pipeline.ΦA spec0 c
  q _ := fullShare
  owed _ := 0

/-- The windows' arrays are as the host operations before the call leave them. -/
theorem dats_A (c : Dev nD) (w : Fin cfg0.W) : (dats m 0 c).A w = V m c (Pipeline.arrRef spec0 w) := by
  dsimp only [dats]

/-- After a step, the input block is as it was fetched. -/
theorem dats_after0 (c : Dev nD) (t : Fin cfg0.N) : (dats m 0 c).after 0 t = iblk m c 0 t := by dsimp only [dats]
/-- After a step, the output block is what the body computes from the input block. -/
theorem dats_after1 (c : Dev nD) (t : Fin cfg0.N) : (dats m 0 c).after 1 t = outBlock (iblk m c 0 t) := by dsimp only [dats]

/-- The body finds the detections' block in its buffer. -/
theorem dats_before0 (c : Dev nD) (t : Fin cfg0.N) (d) : (dats m 0 c).before 0 t d = iblk m c 0 t :=
  before0_0_of m (dats m 0 c) (dats_A m c 0) (dats_after0 m c) t d

/-- What the body is called with: the two scratch buffers and the register at anything, nothing owed, the two windows. -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- What it hands back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- A buffer held at some contents is its memref held at some contents, -/
theorem some_of_whole (c : Dev nD) (b : Ref sig .tc) :
    (iprop(∃ f : Buf (Elt F) ((c : Thread nD τ).loc b), ((c : Thread nD τ).loc b) ↦{fullShare} f) : sProp 𝕄)
      ⊢ iprop(∃ d, owns (c : Thread nD τ) (Memref.whole b) fullShare d) := by
  iintro ⟨%f, H⟩; iexists f; irw [owns_whole_eq]; iexists f; isplitr; · ipureintro; rfl
  iexact H

/-- and back. -/
theorem whole_of_some (c : Dev nD) (b : Ref sig .tc) :
    (iprop(∃ d, owns (c : Thread nD τ) (Memref.whole b) fullShare d) : sProp 𝕄)
      ⊢ iprop(∃ f : Buf (Elt F) ((c : Thread nD τ).loc b), ((c : Thread nD τ).loc b) ↦{fullShare} f) := by
  simp only [owns_whole_eq]
  iintro ⟨%d, %f, -, H⟩; iexists f; iexact H

/-- The body's run, at what the call hands it. -/
theorem call_run (c : Dev nD) (t : Fin cfg0.N) :
    handed m c t ⊢ wp frame (wpE (defs₀ (F := F)) Variants.none c none) Set.univ (bodyAt0 t) (fun _ => returned m c t) := by
  unfold handed returned bodyAt0
  simp only [dats_before0]
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl,
    dats_after0, dats_after1]
  unfold Pipeline.ΦA
  rw [scopedRest0_eq]
  iintro ⟨⟨⟨⟨%s0, S0⟩, ⟨%s1, S1⟩⟩, Hp⟩, Ho, ⟨%d0, H0⟩, ⟨%d1, H1⟩⟩
  iapply (body_run c _ _ _ _ _ _ _ _ (iblk m c 0 t) _)
  isplitl [H0]; · iexact H0
  isplitl [H1]; · iexists _; iexact H1
  isplitl [S0]; · iapply (some_of_whole c cc0_scratch0); iexists s0; iexact S0
  isplitl [S1]; · iapply (some_of_whole c cc0_scratch1); iexists s1; iexact S1
  iintro ⟨H0, H1, S0, S1⟩
  isplitl [S0 S1 Hp]
  · isplitl [S0 S1]
    · isplitl [S0]
      · iapply (whole_of_some c cc0_scratch0); iexact S0
      · iapply (whole_of_some c cc0_scratch1); iexact S1
    · iexact Hp
  isplitl [Ho]; · iexact Ho
  isplitl [H0]; · iexact H0
  iexact H1

/-- The table of kernel bodies holds the kernel's at the one call. -/
theorem table_row (t : Fin cfg0.N) :
    defs₀ (F := F) .tc cfg0.body (cfg0.bodyArgs t (cfg0.slots t)) = bodyAt0 t := by
  unfold defs₀; rw [Defs.onTc_tc]

/-- The obligation of the call, at its one point. -/
theorem call_obligation (c : Dev nD) : BodyObligation (dats (F := F) m 0 c) (defs₀ (F := F)) Variants.none () Set.univ := fun t => by
  rw [bigSep_W0, bigSep_W0, table_row]
  exact triple_restated (call_run m c t) rfl .rfl fun _ => .rfl

set_option backward.isDefEq.respectTransparency.types false in
/-- Every execution of @main ends, with each array at what the call and the later host operations leave and every
    semaphore counter at zero. -/
theorem main_run : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (call_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := dats_A m) (hΦ := fun _ _ => rfl)

/-- The frame: every execution of @main ends with the argument unchanged and every semaphore counter at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  θ_run_and (frame_of m ρ (dats m) (dats_A m) ((θ_run defs _ _).mono (fun _ h => h.1) (main_run m ρ)))
    ((θ_run defs _ _).mono (fun _ h => h.2) (main_run m ρ))

end Cert.Proof.KernelIdeal

end
-- ==== Proof.ReferenceIdealRun.lean ====
/-
  The reference's run: it terminates with its argument unchanged and every semaphore counter at zero, and its result
  is the one its operations compute in order.
-/
module

public import proofs.«01_k».proof.Proof.Gen.ReferenceIdeal.Run
public import Idealize.ShloMosaic.Lib.Quiescent

@[expose] public section

noncomputable section

namespace Cert.Proof.ReferenceIdeal

open Cert.ReferenceIdeal Cert.ReferenceIdeal.Gen Cert.ReferenceIdeal.Value
open Idealize.ShloMosaic Idealize.ShloMosaic.TcCoe Idealize.ShloMosaic.StableHlo
open Idealize.SL.Sem

variable {F : FTy → Type} [FloatOps F]

/-- The contents of core `c`'s buffers when the program has ended. -/
abbrev ended (m : (ℓ : Loc nD τ sig) → Buf (Elt F) ℓ) (c : Dev nD) : Valuation τ sig (Elt F) :=
  finalContents condOps preI bodyI postI 5000 m c

/-- No stretch before the loop writes the argument. -/
theorem arg_pre (V : Valuation τ sig (Elt F)) : afterL preI V (Proc.devRef .tc main_arg0) = V (Proc.devRef .tc main_arg0) := by
  simp only [preI, afterL_cons, afterL_nil]
  rw [after_of_writes_sub hostOps0_3 _ hostOps0_3_writes (by decide), after_of_writes_sub hostOps0_2 _ hostOps0_2_writes (by decide),
    after_of_writes_sub hostOps0_1 _ hostOps0_1_writes (by decide), after_of_writes_sub hostOps0 _ hostOps0_writes (by decide)]

/-- No operation after the loop writes the argument or the sorted detections. -/
theorem keep_post (V : Valuation τ sig (Elt F)) (r : Ref sig .tc) (hr : r = main_arg0 ∨ r = main_v4) :
    afterL postI V (Proc.devRef .tc r) = V (Proc.devRef .tc r) := by
  simp only [postI, afterL_cons, afterL_nil]
  iterate 5
    rw [after_of_forall_not_mem _ _ (fun op hop => ?_)]
    rotate_left
    · fin_cases hop <;> rcases hr with rfl | rfl <;> exact fun h => devRef_ne_of_ne (by decide) (Finset.mem_singleton.mp h)

/-- No trip of the loop writes a buffer that neither its test nor its body writes. -/
theorem keep_trip (W : Dev nD → Valuation τ sig (Elt F)) (c : Dev nD) (r : Ref sig .tc) (hc : r ∉ condOps_W) (hb : r ∉ while0Ops0_W) :
    ∀ k, atTrip condOps bodyI W k c (Proc.devRef .tc r) = W c (Proc.devRef .tc r)
  | 0 => rfl
  | k + 1 => by
    rw [atTrip_succ]
    simp only [bodyI, afterL_cons, afterL_nil]
    rw [after_of_writes_sub while0Ops0 _ while0Ops0_writes hb, after_of_writes_sub condOps _ condOps_writes hc]
    exact keep_trip W c r hc hb k

/-- The argument ends as it was at launch. -/
theorem arg_ended (m : (ℓ : Loc nD τ sig) → Buf (Elt F) ℓ) (c : Dev nD) :
    ended m c (Proc.devRef .tc main_arg0) = m ((c.tc : Thread nD τ).loc main_arg0) := by
  rw [ended, finalContents, keep_post _ _ (.inl rfl), after_of_writes_sub condOps _ condOps_writes (by decide),
    keep_trip _ c main_arg0 (by decide) (by decide), entryContents, arg_pre]

/-- The run: the result is what the operations compute, the argument is unchanged, every semaphore counter is zero. -/
theorem main_run (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, r.2.mem ((c.tc : Thread nD τ).loc main_v71) = ended m c (Proc.devRef .tc main_v71)
        ∧ r.2.mem ((c.tc : Thread nD τ).loc main_arg0) = m ((c.tc : Thread nD τ).loc main_arg0))
      ∧ r.2.sem = fun _ => 0) :=
  (θ_run _ _ _).mono (fun r h => ⟨fun c => ⟨h c main_v71 rfl, (h c main_arg0 rfl).trans (arg_ended m c)⟩,
    sem_eq_zero_of_no_sems rfl r.2⟩) (run_fold m ρ)

/-- The frame: the argument is unchanged and every semaphore counter is zero. -/
theorem unchanged (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, r.2.mem ((c.tc : Thread nD τ).loc main_arg0) = m ((c.tc : Thread nD τ).loc main_arg0))
      ∧ r.2.sem = fun _ => 0) :=
  (θ_run _ _ _).mono (fun r h => ⟨fun c => (h.1 c).2, h.2⟩) (main_run m ρ)

end Cert.Proof.ReferenceIdeal

end
-- ==== Proof.Spec.lean ====
/-
  What both programs compute from the sorted detections, stated over extended reals and naming neither program.

  A detection is a row of nine numbers: columns 1 to 4 are the corners x1, y1, x2, y2 of its box and columns 5 to 8 its
  four scores. Detections come in the order of falling score.
-/
module

public import Idealize.ShloMosaic.PureOps.Ideal
public import Idealize.ShloMosaic.Lib.Pointwise

@[expose] public section

noncomputable section

namespace Cert.Proof.Spec

open Idealize.ShloMosaic

/-- The rows of an array of 5000 detections, numbered by natural numbers; past the last one the rows are zero and nothing
    depends on them. -/
def dets (x : FVec Ideal ⟨2, ![5000, 9]⟩ .f32) (n : ℕ) (c : Fin 9) : EReal :=
  if h : n < 5000 then x (ix2 ⟨n, h⟩ c) else 0

/-- A row of the array at a number below 5000. -/
theorem dets_of_lt (x : FVec Ideal ⟨2, ![5000, 9]⟩ .f32) (n : Fin 5000) (c : Fin 9) :
    dets x n.val c = x (ix2 n c) := dif_pos n.isLt

/-- The area of a row's box. -/
def area (p : Fin 9 → EReal) : EReal := max (p 3 - p 1) 0 * max (p 4 - p 2) 0

/-- The area two rows' boxes share. -/
def inter (p q : Fin 9 → EReal) : EReal :=
  max (min (p 3) (q 3) - max (p 1) (q 1)) 0 * max (min (p 4) (q 4) - max (p 2) (q 2)) 0

/-- Two rows overlap too much: the shared area over the area of the union (plus 1e-9) is above 0.6. -/
def over (p q : Fin 9 → EReal) : Prop :=
  Ideal.ofBits .f32 0x3F19999A#32 < Ideal.div (inter p q) (area p + area q - inter p q + Ideal.ofBits .f32 0x3089705F#32)

/-- Row `n` is still kept after rows `0` to `k - 1` have each suppressed, if kept themselves, the later rows they overlap
    too much. -/
def keep (R : ℕ → Fin 9 → EReal) : ℕ → ℕ → Prop
  | 0, _ => True
  | k + 1, n => keep R k n ∧ ¬ ((over (R k) (R n) ∧ k < n) ∧ keep R k k)

/-- The height of a row's box over its width, zero when the width is not positive. -/
def aspect (p : Fin 9 → EReal) : EReal :=
  if 0 < p 3 - p 1 then Ideal.div (p 4 - p 2) (max (p 3 - p 1) (Ideal.ofBits .f32 0x3089705F#32)) else 0

/-- Width and height are between 5 and 300 and the aspect between 0.5 and 8. -/
def sized (p : Fin 9 → EReal) : Prop :=
  (((((Ideal.ofBits .f32 0x40A00000#32 ≤ p 3 - p 1 ∧ Ideal.ofBits .f32 0x40A00000#32 ≤ p 4 - p 2)
    ∧ p 3 - p 1 ≤ Ideal.ofBits .f32 0x43960000#32) ∧ p 4 - p 2 ≤ Ideal.ofBits .f32 0x43960000#32)
    ∧ Ideal.ofBits .f32 0x3F000000#32 ≤ aspect p) ∧ aspect p ≤ Ideal.ofBits .f32 0x41000000#32)

/-- The highest of a row's four scores is at least 0.3. -/
def sure (p : Fin 9 → EReal) : Prop :=
  Ideal.ofBits .f32 0x3E99999A#32 ≤ max (max (p 5) (p 6)) (max (p 7) (p 8))

/-- A score other than the first is strictly above the first: the row's type is not type 0. -/
def typed (p : Fin 9 → EReal) : Prop := p 5 < max (max (p 6) (p 7)) (p 8)

open Classical in
/-- One where row `n` passes every filter, zero elsewhere. -/
def mask (R : ℕ → Fin 9 → EReal) (n : ℕ) : EReal :=
  if ((keep R 5000 n ∧ sized (R n)) ∧ sure (R n)) ∧ typed (R n) then 1 else 0

/-- Whether row `n` is kept depends only on the rows below `N`, when `n` and the suppressing rows are below `N`. -/
theorem keep_congr {R R' : ℕ → Fin 9 → EReal} {N : ℕ} (h : ∀ n, n < N → R n = R' n) :
    ∀ k, k ≤ N → ∀ n, n < N → (keep R k n ↔ keep R' k n)
  | 0, _, _, _ => Iff.rfl
  | k + 1, hk, n, hn => by
    simp only [keep]
    rw [keep_congr h k (by omega) n hn, keep_congr h k (by omega) k (by omega), h n hn, h k (by omega)]

open Classical in
/-- The mask depends only on the first 5000 rows. -/
theorem mask_congr {R R' : ℕ → Fin 9 → EReal} (h : ∀ n, n < 5000 → R n = R' n) (n : ℕ) (hn : n < 5000) :
    mask R n = mask R' n := by
  have e := keep_congr h 5000 le_rfl n hn
  unfold mask
  exact if_congr (by rw [e, h n hn]) rfl rfl

/-- A one-bit word is the bit one exactly when the proposition it decides holds. -/
theorem ofBool_decide_eq_one (p : Prop) [Decidable p] : BitVec.ofBool (decide p) = 1#1 ↔ p := by
  by_cases h : p <;> simp [h]

/-- The conjunction of two one-bit words is the bit one exactly when both are. -/
theorem andi_eq_one (a b : BitVec 1) : IntOp.andi a b = 1#1 ↔ a = 1#1 ∧ b = 1#1 := by
  revert a b; decide

end Cert.Proof.Spec

end
-- ==== Proof.KernelLoopValue.lean ====
/-
  What the suppression loop of the idealized kernel leaves: the word of each lane is one when its detection is kept and
  zero when it is suppressed.
-/
module

public import proofs.«01_k».proof.Proof.KernelIdealBody
public import proofs.«01_k».proof.Proof.Spec
public import Idealize.ShloMosaic.Lib.Pointwise

@[expose] public section

set_option maxRecDepth 16384

noncomputable section

namespace Cert.Proof.KernelIdeal

open Cert.KernelIdeal Cert.KernelIdeal.Gen Cert.Proof.Spec
open Idealize.ShloMosaic Idealize.ShloMosaic.Pointwise

/-- The loop runs 5000 trips. -/
theorem trips_eq : k0_t1_loop.trips = 5000 := by decide

/-- The lane's number, as a word. -/
theorem rank_toNat (s : Fin 40) (l : Fin 128) :
    (IntOp.addi (IntOp.muli (BitVec.ofNat 32 s.val) 128#32) (BitVec.ofNat 32 l.val)) = BitVec.ofNat 32 (s.val * 128 + l.val) := by
  apply BitVec.eq_of_toNat_eq
  simp [IntOp.addi, IntOp.muli]

/-- The trip's number, as a word. -/
theorem iv_eq (k : ℕ) : Scf.iv 0#32 1#32 k = BitVec.ofNat 32 k := by
  simp [Scf.iv]

/-- A lane is the trip's own exactly when its number is the trip's. -/
theorem own_iff (k : Fin k0_t1_loop.trips) (s : Fin 40) (l : Fin 128) : k0_pay12 k (ix2 s l) = 1#1 ↔ s.val * 128 + l.val = k.val := by
  have hk : k.val < 5000 := trips_eq ▸ k.isLt
  have hs := s.isLt
  have hl := l.isLt
  pointwise [k0_pay12, k0_pay11]
  rw [rank_toNat, iv_eq, WordCmp.cmpi_eq_ofNat_eq_one_iff (by omega) (by omega)]

/-- A lane comes after the trip's own exactly when its number is above the trip's. -/
theorem later_iff (k : Fin k0_t1_loop.trips) (s : Fin 40) (l : Fin 128) :
    IntOp.cmpi .sgt (IntOp.addi (IntOp.muli (BitVec.ofNat 32 s.val) 128#32) (BitVec.ofNat 32 l.val)) (Scf.iv 0#32 1#32 k.val) = 1#1
      ↔ k.val < s.val * 128 + l.val := by
  have hk : k.val < 5000 := trips_eq ▸ k.isLt
  have hs := s.isLt
  have hl := l.isLt
  rw [rank_toNat, iv_eq, WordCmp.cmpi_sgt_ofNat_eq_one_iff (by omega) (by omega)]

/-- The row and the lane at which detection `n` lies. -/
def rowOf (n : ℕ) : Fin 40 := ⟨n / 128 % 40, Nat.mod_lt _ (by decide)⟩
/-- The lane a rank lies in. -/
def laneOf (n : ℕ) : Fin 128 := ⟨n % 128, Nat.mod_lt _ (by decide)⟩

/-- The row of the rank of row `s` and lane `l` is `s`. -/
theorem rowOf_rank (s : Fin 40) (l : Fin 128) : rowOf (s.val * 128 + l.val) = s := by
  apply Fin.ext; simp only [rowOf]; omega

/-- The lane of the rank of row `s` and lane `l` is `l`. -/
theorem laneOf_rank (s : Fin 40) (l : Fin 128) : laneOf (s.val * 128 + l.val) = l := by
  apply Fin.ext; simp only [laneOf]; omega

/-- Summing the words of the trip's own lane and zeros elsewhere gives that lane's word. -/
theorem pick (k : Fin k0_t1_loop.trips) (v : Fin 40 → Fin 128 → EReal) :
    ∑ s, ∑ l, Scalar.select (k0_pay12 k (ix2 s l)) (v s l) 0 = v (rowOf k.val) (laneOf k.val) := by
  have hk : k.val < 5000 := trips_eq ▸ k.isLt
  rw [Finset.sum_eq_single (rowOf k.val), Finset.sum_eq_single (laneOf k.val)]
  · rw [(own_iff k _ _).2 (by simp only [rowOf, laneOf]; omega)]; rfl
  · intro l _ hl
    rw [Scalar.select, if_neg]
    intro h
    exact hl (by rw [← laneOf_rank (rowOf k.val) l, (own_iff k _ _).1 h])
  · simp
  · intro s _ hs
    refine Finset.sum_eq_zero fun l _ => ?_
    rw [Scalar.select, if_neg]
    intro h
    exact hs (by rw [← rowOf_rank s l, (own_iff k _ _).1 h])
  · simp

/-- Detection `n` of the block: its nine numbers. -/
def rows (x : Vec Ideal S9x40x128 .f32) (n : ℕ) (c : Fin 9) : EReal := x (ix3 c (rowOf n) (laneOf n))

/-- The rows read at the rank of row `s` and lane `l`. -/
theorem rows_rank (x : Vec Ideal S9x40x128 .f32) (s : Fin 40) (l : Fin 128) (c : Fin 9) :
    rows x (s.val * 128 + l.val) c = x (ix3 c s l) := by rw [rows, rowOf_rank, laneOf_rank]

/-- Trip `k` finds its own detection kept exactly when its word is positive. -/
theorem live_iff (k : Fin k0_t1_loop.trips) (a : Vec Ideal S40x128 .f32) :
    live k a = 1#1 ↔ 0 < a (ix2 (rowOf k.val) (laneOf k.val)) := by
  have e : k0_pay13 k a = a (ix2 (rowOf k.val) (laneOf k.val)) := by
    pointwise [k0_pay13]
    exact pick k fun s l => a (ix2 s l)
  unfold live
  rw [e]
  pointwise
  by_cases h : 0 < a (ix2 (rowOf k.val) (laneOf k.val))
  · simp only [h, decide_true]; exact ⟨fun _ => trivial, fun _ => by decide⟩
  · simp only [h, decide_false]; exact ⟨fun q => absurd q (by decide), False.elim⟩

/-- The area trip `k`'s box shares with lane `(s, l)`'s. -/
theorem inter_apply (x : Vec Ideal S9x40x128 .f32) (k : Fin k0_t1_loop.trips) (s : Fin 40) (l : Fin 128) :
    k0_pay2 (k0_pay4 (View.ld x r1)) (k0_pay5 (View.ld x r2)) (k0_pay6 (View.ld x r3)) (k0_pay7 (View.ld x r4)) (k0_pay12 k) (ix2 s l)
      = inter (rows x k.val) (rows x (s.val * 128 + l.val)) := by
  simp only [inter, rows_rank]
  pointwise [k0_pay2, k0_pay4, k0_pay5, k0_pay6, k0_pay7]
  simp only [pick k fun s l => x (ix3 _ s l)]
  simp only [rows, min_comm (x (ix3 _ s l)), max_comm (x (ix3 _ s l))]

/-- The area of the box of lane `(s, l)`. -/
theorem area_apply (x : Vec Ideal S9x40x128 .f32) (s : Fin 40) (l : Fin 128) :
    k0_pay8 (View.ld x r1) (View.ld x r2) (View.ld x r3) (View.ld x r4) (ix2 s l) = area (rows x (s.val * 128 + l.val)) := by
  simp only [area, rows_rank]
  pointwise [k0_pay8, k0_pay4, k0_pay5, k0_pay6, k0_pay7]

/-- The area of the union of the two boxes. -/
theorem union_apply (x : Vec Ideal S9x40x128 .f32) (k : Fin k0_t1_loop.trips) (s : Fin 40) (l : Fin 128) :
    k0_pay3 (k0_pay4 (View.ld x r1)) (k0_pay5 (View.ld x r2)) (k0_pay6 (View.ld x r3)) (k0_pay7 (View.ld x r4))
        (k0_pay8 (View.ld x r1) (View.ld x r2) (View.ld x r3) (View.ld x r4)) (k0_pay12 k) (ix2 s l)
      = area (rows x k.val) + area (rows x (s.val * 128 + l.val)) - inter (rows x k.val) (rows x (s.val * 128 + l.val)) := by
  rw [← inter_apply]
  pointwise [k0_pay3]
  simp only [area_apply]
  rw [pick k fun s l => area (rows x (s.val * 128 + l.val))]
  rw [show (rowOf k.val).val * 128 + (laneOf k.val).val = k.val from ?_]
  have hk : k.val < 5000 := trips_eq ▸ k.isLt
  simp only [rowOf, laneOf]; omega

open Classical in
/-- A suppressing trip clears the words of the later detections it overlaps too much. -/
theorem cleared_apply (x : Vec Ideal S9x40x128 .f32) (k : Fin k0_t1_loop.trips) (a : Vec Ideal S40x128 .f32) (s : Fin 40) (l : Fin 128) :
    cleared (View.ld x r1) (View.ld x r2) (View.ld x r3) (View.ld x r4) k a (ix2 s l)
      = if over (rows x k.val) (rows x (s.val * 128 + l.val)) ∧ k.val < s.val * 128 + l.val then 0 else a (ix2 s l) := by
  unfold cleared
  pointwise [k0_pay14, k0_pay11]
  simp only [inter_apply, union_apply]
  rw [Scalar.select]
  refine if_congr ?_ rfl rfl
  refine (andi_eq_one _ _).trans ?_
  rw [later_iff, ofBool_decide_eq_one]
  rfl

open Classical in
/-- The words before trip `k`. -/
theorem act_apply (x : Vec Ideal S9x40x128 .f32) : ∀ (k : ℕ), k ≤ 5000 → ∀ (s : Fin 40) (l : Fin 128),
    act (View.ld x r1) (View.ld x r2) (View.ld x r3) (View.ld x r4) k (ix2 s l)
      = if keep (rows x) k (s.val * 128 + l.val) then 1 else 0
  | 0, _, s, l => by
    simp only [act, keep, if_true]
    pointwise [k0_pay10]
  | k + 1, hk, s, l => by
    have hk' : k < k0_t1_loop.trips := by rw [trips_eq]; omega
    have hr : (rowOf k).val * 128 + (laneOf k).val = k := by simp only [rowOf, laneOf]; omega
    have hlive : live ⟨k, hk'⟩ (act (View.ld x r1) (View.ld x r2) (View.ld x r3) (View.ld x r4) k) = 1#1 ↔ keep (rows x) k k := by
      rw [live_iff, act_apply x k (by omega), hr]
      split <;> simp_all
    rw [act, dif_pos hk', trip]
    by_cases h : keep (rows x) k k
    · rw [if_pos (hlive.2 h), cleared_apply, act_apply x k (by omega)]
      by_cases h1 : over (rows x k) (rows x (s.val * 128 + l.val)) ∧ k < s.val * 128 + l.val
      · rw [if_pos h1, if_neg (show ¬ keep (rows x) (k + 1) (s.val * 128 + l.val) from fun q => q.2 ⟨h1, h⟩)]
      · rw [if_neg h1]
        exact if_congr (show _ ↔ keep (rows x) (k + 1) (s.val * 128 + l.val) from ⟨fun q => ⟨q, fun w => h1 w.1⟩, fun q => q.1⟩) rfl rfl
    · rw [if_neg (fun q => h (hlive.1 q)), act_apply x k (by omega)]
      exact if_congr (show _ ↔ keep (rows x) (k + 1) (s.val * 128 + l.val) from ⟨fun q => ⟨q, fun w => h w.2⟩, fun q => q.1⟩) rfl rfl

open Classical in
/-- The words the loop leaves. -/
theorem kept_apply (x : Vec Ideal S9x40x128 .f32) (s : Fin 40) (l : Fin 128) :
    kept x (ix2 s l) = if keep (rows x) 5000 (s.val * 128 + l.val) then 1 else 0 := by
  have e : k0_t1_loop.trips = 5000 := trips_eq
  rw [kept, e]
  exact act_apply x 5000 le_rfl s l

end Cert.Proof.KernelIdeal

end
-- ==== Proof.KernelBlockValue.lean ====
/-
  What the idealized kernel's body leaves in the result block: each detection's nine numbers times its mask.
-/
module

public import proofs.«01_k».proof.Proof.KernelLoopValue

@[expose] public section

set_option maxRecDepth 16384

noncomputable section

namespace Cert.Proof.KernelIdeal

open Cert.KernelIdeal Cert.KernelIdeal.Gen Cert.Proof.Spec
open Idealize.ShloMosaic Idealize.ShloMosaic.Pointwise

/-- A one-bit word widened and read as a number: one for the bit one, zero for the bit zero. -/
theorem bit_value (b : BitVec 1) :
    (FloatOps.sitofp (F := Ideal) .f32 (b.setWidth 32) : EReal) = if b = 1#1 then 1 else 0 := by
  have h : b = 0#1 ∨ b = 1#1 := by revert b; decide
  rcases h with rfl | rfl
  · exact (show (((0 : ℤ) : ℝ) : EReal) = _ by simp)
  · exact (show (((1 : ℤ) : ℝ) : EReal) = _ by simp)

/-- Lane `(s, l)` passes the size and aspect filters exactly when its detection does. -/
theorem sized_iff (x : Vec Ideal S9x40x128 .f32) (s : Fin 40) (l : Fin 128) :
    k0_pay17 (k0_pay4 (View.ld x r1)) (k0_pay5 (View.ld x r2)) (k0_pay6 (View.ld x r3)) (k0_pay7 (View.ld x r4)) (ix2 s l) = 1#1
      ↔ sized (rows x (s.val * 128 + l.val)) := by
  unfold sized aspect
  simp only [rows_rank]
  pointwise [k0_pay17, k0_pay4, k0_pay5, k0_pay6, k0_pay7]
  simp only [andi_eq_one, ofBool_decide_eq_one]

/-- Score 0 of lane `(s, l)`. -/
theorem score0_apply (x : Vec Ideal S9x40x128 .f32) (s : Fin 40) (l : Fin 128) :
    k0_pay18 (View.ld x r5) (ix2 s l) = rows x (s.val * 128 + l.val) 5 := by
  simp only [rows_rank]
  pointwise [k0_pay18]

/-- Score 1 of lane `(s, l)`. -/
theorem score1_apply (x : Vec Ideal S9x40x128 .f32) (s : Fin 40) (l : Fin 128) :
    k0_pay19 (View.ld x r6) (ix2 s l) = rows x (s.val * 128 + l.val) 6 := by
  simp only [rows_rank]
  pointwise [k0_pay19]

/-- Score 2 of lane `(s, l)`. -/
theorem score2_apply (x : Vec Ideal S9x40x128 .f32) (s : Fin 40) (l : Fin 128) :
    k0_pay20 (View.ld x r7) (ix2 s l) = rows x (s.val * 128 + l.val) 7 := by
  simp only [rows_rank]
  pointwise [k0_pay20]

/-- Score 3 of lane `(s, l)`. -/
theorem score3_apply (x : Vec Ideal S9x40x128 .f32) (s : Fin 40) (l : Fin 128) :
    k0_pay21 (View.ld x r8) (ix2 s l) = rows x (s.val * 128 + l.val) 8 := by
  simp only [rows_rank]
  pointwise [k0_pay21]

/-- The highest score of lane `(s, l)` is at least the threshold exactly when its detection is sure. -/
theorem sure_iff (x : Vec Ideal S9x40x128 .f32) (s : Fin 40) (l : Fin 128) :
    (Scalar.ofBits (F := Ideal) .f32 0x3E99999A#32 : EReal) ≤ k0_pay22 (View.ld x r5) (View.ld x r6) (View.ld x r7) (View.ld x r8) (ix2 s l)
      ↔ sure (rows x (s.val * 128 + l.val)) := by
  unfold sure
  simp only [rows_rank]
  pointwise [k0_pay18, k0_pay19, k0_pay20, k0_pay21, k0_pay22]

open Classical in
/-- A word that is one where `P` holds and zero elsewhere is positive exactly when `P` holds. -/
theorem pos_iff_of_eq {y : EReal} {P : Prop} (h : y = if P then 1 else 0) : 0 < y ↔ P := by
  subst h
  by_cases hP : P
  · rw [if_pos hP]; exact ⟨fun _ => hP, fun _ => zero_lt_one⟩
  · rw [if_neg hP]; exact ⟨fun q => absurd q (lt_irrefl _), fun q => absurd q hP⟩

/-- The test of lane `(s, l)`'s word. -/
theorem word_apply (y : Vec Ideal S40x128 .f32) (s : Fin 40) (l : Fin 128) :
    k0_pay16 y k0_pay15 (ix2 s l) = BitVec.ofBool (decide ((0 : EReal) < y (ix2 s l))) := by
  pointwise [k0_pay16, k0_pay15]

/-- The loop's word of lane `(s, l)` is positive exactly when its detection is kept. -/
theorem kept_iff (x : Vec Ideal S9x40x128 .f32) (s : Fin 40) (l : Fin 128) :
    k0_pay16 (kept x) k0_pay15 (ix2 s l) = 1#1 ↔ keep (rows x) 5000 (s.val * 128 + l.val) := by
  rw [word_apply, ofBool_decide_eq_one]
  exact pos_iff_of_eq (kept_apply x s l)

/-- The conjunction of the four filters, as a number. -/
theorem filters_apply (p q : IVec S40x128 1) (s0 s1 s2 s3 b : FVec Ideal S40x128 .f32) (t : Ideal .f32) (i : Fin 40) (l : Fin 128) :
    k0_pay23 p q s0 s1 s2 s3 b t (ix2 i l)
      = FloatOps.sitofp (F := Ideal) .f32 ((IntOp.andi (IntOp.andi (IntOp.andi (p (ix2 i l)) (q (ix2 i l))) (BitVec.ofBool (decide (t ≤ b (ix2 i l)))))
          (BitVec.ofBool (decide (s0 (ix2 i l) < max (max (s1 (ix2 i l)) (s2 (ix2 i l))) (s3 (ix2 i l)))))).setWidth 32) := by
  pointwise [k0_pay23]

open Classical in
/-- The mask the body multiplies by. -/
theorem maskOf_apply (x : Vec Ideal S9x40x128 .f32) (s : Fin 40) (l : Fin 128) :
    maskOf x (kept x) (ix2 s l) = mask (rows x) (s.val * 128 + l.val) := by
  unfold maskOf
  rw [filters_apply, bit_value]
  unfold mask
  refine if_congr ?_ rfl rfl
  rw [andi_eq_one, andi_eq_one, andi_eq_one, kept_iff, sized_iff, ofBool_decide_eq_one, ofBool_decide_eq_one]
  refine and_congr (and_congr Iff.rfl (sure_iff x s l)) ?_
  rw [score0_apply, score1_apply, score2_apply, score3_apply]
  exact Iff.rfl

/-- One row under a mask. -/
theorem masked_apply (M : FVec Ideal S40x128 .f32) (v : Vec Ideal S1x40x128 .f32) (i : S1x40x128.Idx) :
    masked M v i = v i * M (ix2 (i 1) (i 2)) := by
  idx_vars i
  pointwise [masked]
  rw [Subsingleton.elim i0 0]

/-- The nine stores, read together: each number of the block times its lane of the mask. -/
theorem stored_apply (x : Vec Ideal S9x40x128 .f32) (M : FVec Ideal S40x128 .f32) (c : Fin 9) (s : Fin 40) (l : Fin 128) :
    View.canon (stores x M) (ix3 c s l) = (x (ix3 c s l) : EReal) * M (ix2 s l) := by
  rw [View.canon_apply_of_pieces (fun i : S9x40x128.Idx => (x i : EReal) * M (ix2 (i 1) (i 2))) _ ?_ _ (stores_cover _ _ _)]
  · rfl
  · intro p hp
    simp only [stores, List.mem_cons, List.not_mem_nil, or_false] at hp
    rcases hp with rfl | rfl | rfl | rfl | rfl | rfl | rfl | rfl | rfl
    all_goals
      intro i
      change masked M _ i = _
      rw [masked_apply]
      refine congrArg₂ (fun a b : EReal => a * b) rfl (congrArg M (congrArg₂ ix2 (Fin.ext ?_) (Fin.ext ?_)))
      · exact (show (i 1).val = 0 + 1 * (i 1).val by omega)
      · exact (show (i 2).val = 0 + 1 * (i 2).val by omega)

/-- The result block: each number of the block times its detection's mask. -/
theorem outBlock_apply (x : Vec Ideal S9x40x128 .f32) (c : Fin 9) (s : Fin 40) (l : Fin 128) :
    outBlock x (ix3 c s l) = (x (ix3 c s l) : EReal) * mask (rows x) (s.val * 128 + l.val) := by
  rw [outBlock, stored_apply, maskOf_apply]

end Cert.Proof.KernelIdeal

end
-- ==== Proof.KernelValue.lean ====
/-
  What the idealized kernel's program ends with: each sorted detection's nine numbers times its mask.
-/
module

public import proofs.«01_k».proof.Proof.KernelBlockValue
public import proofs.«01_k».proof.Proof.KernelIdealRun
public import Idealize.ShloMosaic.Lib.StableHlo.RunLoop
public import Idealize.ShloMosaic.Lib.Pipeline.ValueKit
public import Idealize.ShloMosaic.Lib.Routing.OpsSet
public import Idealize.ShloMosaic.Lib.Routing.OpsPair

@[expose] public section

set_option maxRecDepth 16384

noncomputable section

namespace Cert.Proof.KernelIdeal

open Cert.KernelIdeal Cert.KernelIdeal.Gen Cert.Proof.Spec
open Idealize.ShloMosaic Idealize.ShloMosaic.TcCoe Idealize.ShloMosaic.Pointwise Idealize.ShloMosaic.StableHlo

variable (m : (ℓ : Loc nD τ sig) → Buf (Elt Ideal) ℓ) (c : Dev nD)

/-- The contents of core `c`'s buffers once the detections are sorted. -/
def sortedAt : Valuation τ sig (Elt Ideal) := after hostOps0_2 (after hostOps0_1 (after hostOps0 (fun b => m (c, b))))

/-- The sorted detections. -/
def sorted : FVec Ideal S5000x9 .f32 := sortedAt m c (Proc.devRef .tc main_v4)

/-- The sorted detections followed by 120 rows of zeros. -/
def padded (x : FVec Ideal S5000x9 .f32) : FVec Ideal S5120x9 .f32 :=
  Host.scatter scatter_S5120x9_S1_S5000x9_01_n_0_0 (fun _ b => b)
    (broadcastInDim S5120x9 ![] bcast_S_S5120x9 (constant S_ .f32 0x00000000#32))
    (broadcastInDim S1 ![] bcast_S_S1 (constantI S_ 32 0#32)) x

/-- The block the kernel call is given. -/
def fed (x : FVec Ideal S5000x9 .f32) : FVec Ideal S9x40x128 .f32 :=
  shapeCast S9x40x128 (transpose S9x5120 [1, 0] (padded x) transposes_S5120x9_S9x5120_1_0) shapeCasts_S9x5120_S9x40x128

/-- The array the kernel is called on is the sorted detections, padded and laid out. -/
theorem fed_eq : V m c main_v9 = fed (sorted m c) := by
  have e : V m c main_v9 = after hostOps0_3 (sortedAt m c) (Proc.devRef .tc main_v9) := by
    show after (List.flatten [hostOps0, hostOps0_1, hostOps0_2, hostOps0_3]) _ _ = _
    rw [← afterL_eq_after_flatten]; rfl
  rw [e]
  unfold sorted
  generalize sortedAt m c = W
  unfold hostOps0_3
  after_results
  rfl

/-- What the program returns, from the kernel call's result. -/
def unfed (y : FVec Ideal S9x40x128 .f32) : FVec Ideal S5000x9 .f32 :=
  extractStridedSlice S5000x9 ![0, 0] (transpose S5120x9 [1, 0] (shapeCast S9x5120 y shapeCasts_S9x40x128_S9x5120) transposes_S9x5120_S5120x9_1_0)
    slices_S5120x9_S5000x9_0_0

/-- The one block of the whole array, read, is the array. -/
theorem read_whole (A : Vec Ideal S9x40x128 .f32) : ((cfg0.win 0).blk t0_0).view.read (Elt Ideal) A = A := by
  refine funext fun j => ?_
  rw [View.read_apply]
  refine (cast_eq _ _).trans (congrArg A (funext fun a => Fin.ext ?_))
  blk_simp
  rw [show win0_0.index t0_0 a = 0 from rfl, Nat.zero_mul, Nat.zero_add]

/-- The block the kernel body reads is the whole array it is given. -/
theorem iblk_eq : iblk m c 0 t0_0 = V m c main_v9 := read_whole (V m c main_v9)

/-- What the body leaves at the one point is the kernel call's whole result array. -/
theorem arr_of (y : Vec Ideal S9x40x128 .f32) (e : (dats m 0 c).after 1 t0_0 = y) : (dats m 0 c).arrAt 1 cfg0.N = y := by
  refine (dats m 0 c).arrAt_eq_of_after_last 1 t0_0 (by decide +kernel) _ fun j => ?_
  rw [e]
  blk_simp

/-- The kernel call's result array. -/
theorem arr_eq : (dats m 0 c).arrAt 1 cfg0.N = outBlock (fed (sorted m c)) :=
  arr_of m c _ ((dats_after1 m c t0_0).trans (congrArg outBlock ((iblk_eq m c).trans (fed_eq m c))))

/-- The three operations after the call, at any contents. -/
theorem suffix_eq (W : Valuation τ sig (Elt Ideal)) :
    after (List.flatten [hostOps1]) W (Proc.devRef .tc main_v13) = unfed (W (Proc.devRef .tc main_v10)) := by
  simp only [List.flatten_cons, List.flatten_nil, List.append_nil]
  unfold hostOps1
  after_results
  rfl

/-- The program's result. -/
theorem end_eq : Pipeline.afterTail₀ cfgs (dats m) 0 (V0 m) [hostOps1] c main_v13 = unfed (outBlock (F := Ideal) (fed (sorted m c))) := by
  unfold Pipeline.afterTail₀
  rw [suffix_eq]
  exact congrArg unfed ((Pipeline.withArrays_arr (cfgs 0).spec (by decide) c (V0 m c) (fun w => (dats m 0 c).arrAt w (cfgs 0).N) 1).trans (arr_eq m c))

end Cert.Proof.KernelIdeal

end
-- ==== Proof.KernelResult.lean ====
/-
  The kernel's result entry by entry: the rows pass through padding, transposing and reshaping and back, so that the
  result's row is the sorted detection times its mask.
-/
module
public import proofs.«01_k».proof.Proof.KernelValue
@[expose] public section
set_option maxRecDepth 16384
noncomputable section
namespace Cert.Proof.KernelIdeal
open Cert.KernelIdeal Cert.KernelIdeal.Gen Cert.Proof.Spec
open Idealize.ShloMosaic Idealize.ShloMosaic.TcCoe Idealize.ShloMosaic.Pointwise Idealize.ShloMosaic.StableHlo

/-- The block's entry at channel `c`, position `(s, l)` is entry `c` of padded row `128 s + l`. -/
theorem fed_apply (x : FVec Ideal S5000x9 .f32) (c : Fin 9) (s : Fin 40) (l : Fin 128) (n : Fin 5120)
    (hn : s.val * 128 + l.val = n.val) :
    fed x (ix3 c s l) = padded x (ix2 n c) := by
  unfold fed
  generalize padded x = y
  pointwise
  exact congrArg (fun q => y (ix2 q c)) (Fin.ext hn)

/-- Turning the kernel's block back into rows: row `n` comes from position `(n / 128, n % 128)`. -/
theorem unfed_apply (y : FVec Ideal S9x40x128 .f32) (n : Fin 5000) (c : Fin 9) :
    unfed y (ix2 n c) = y (ix3 c (rowOf n.val) (laneOf n.val)) := by
  pointwise [unfed]
  refine congrArg₂ (fun q r => y (ix3 c q r)) (Fin.ext ?_) (Fin.ext ?_)
  · simp [rowOf]
    omega
  · simp [laneOf]

/-- The write that fills the padded array puts update `(a, b)` at row `a`, column `b`. -/
theorem lands_iff (n : Fin 5120) (c : Fin 9) (k : S5000x9.Idx) :
    scatter_S5120x9_S1_S5000x9_01_n_0_0.resultIdx? k (broadcastInDim S1 ![] bcast_S_S1 (constantI S_ 32 0#32)) = some (ix2 n c)
      ↔ (k 0).val = n.val ∧ (k 1).val = c.val := by
  rw [Routing.resultIdx?_eq_some]
  have s0 : scatter_S5120x9_S1_S5000x9_01_n_0_0.start k (broadcastInDim S1 ![] bcast_S_S1 (constantI S_ 32 0#32)) 0 = 0 := rfl
  have s1 : scatter_S5120x9_S1_S5000x9_01_n_0_0.start k (broadcastInDim S1 ![] bcast_S_S1 (constantI S_ 32 0#32)) 1 = 0 := rfl
  have w0 : scatter_S5120x9_S1_S5000x9_01_n_0_0.window k 0 = (k 0).val := rfl
  have w1 : scatter_S5120x9_S1_S5000x9_01_n_0_0.window k 1 = (k 1).val := rfl
  constructor
  · intro q
    have q0 := q 0
    have q1 := q 1
    rw [s0, w0, zero_add] at q0
    rw [s1, w1, zero_add] at q1
    exact ⟨Int.ofNat.inj q0, Int.ofNat.inj q1⟩
  · rintro ⟨h0, h1⟩ a
    match a with
    | 0 => exact (congrArg₂ (· + ·) s0 (congrArg Int.ofNat (w0.trans h0))).trans (zero_add _)
    | 1 => exact (congrArg₂ (· + ·) s1 (congrArg Int.ofNat (w1.trans h1))).trans (zero_add _)

/-- The first 5000 rows of the padded array are the detections. -/
theorem padded_apply (x : FVec Ideal S5000x9 .f32) (n : Fin 5120) (c : Fin 9) (hn : n.val < 5000) :
    padded x (ix2 n c) = x (ix2 ⟨n.val, hn⟩ c) := by
  unfold padded
  refine Routing.scatter_set_hit _ _ _ _ _ _ (fun k hk => ?_) (ix2 ⟨n.val, hn⟩ c) ((lands_iff n c _).2 ⟨rfl, rfl⟩)
  obtain ⟨h0, h1⟩ := (lands_iff n c k).1 hk
  exact (congrArg x (eq_ix2 k)).trans (congrArg₂ (fun q r => x (ix2 q r)) (Fin.ext h0) (Fin.ext h1))

/-- So the rows the kernel sees below 5000 are the detections. -/
theorem rows_fed (x : FVec Ideal S5000x9 .f32) (n : ℕ) (hn : n < 5000) : rows (fed x) n = dets x n := by
  funext c
  have e := fed_apply x c (rowOf n) (laneOf n) ⟨n, by omega⟩ (by simp [rowOf, laneOf]; omega)
  unfold rows
  rw [e, padded_apply x _ c hn]
  unfold dets
  rw [dif_pos hn]

/-- The kernel's result, entry by entry: each sorted detection times its mask. -/
theorem result_apply (x : FVec Ideal S5000x9 .f32) (n : Fin 5000) (c : Fin 9) :
    unfed (outBlock (F := Ideal) (fed x)) (ix2 n c) = (x (ix2 n c) : EReal) * mask (dets x) n.val := by
  have hn := n.isLt
  have r : (rowOf n.val).val * 128 + (laneOf n.val).val = n.val := by simp [rowOf, laneOf]; omega
  rw [unfed_apply, outBlock_apply, r, fed_apply x c _ _ ⟨n.val, by omega⟩ r, padded_apply x _ c hn]
  exact congrArg (fun q : EReal => (x (ix2 n c) : EReal) * q) (mask_congr (fun k hk => rows_fed x k hk) n.val hn)

end Cert.Proof.KernelIdeal
end
-- ==== Proof.ReferenceLoopValue.lean ====
/-
  The reference's suppression loop read entry by entry: before trip `k` detection `n`'s flag says whether it has survived
  the first `k` detections.
-/
module

public import proofs.«01_k».proof.Proof.ReferenceIdealRun
public import proofs.«01_k».proof.Proof.Spec
public import Idealize.ShloMosaic.Lib.Routing.OpsPair

@[expose] public section

set_option maxRecDepth 16384

noncomputable section

namespace Cert.Proof.ReferenceIdeal

open Cert.ReferenceIdeal Cert.ReferenceIdeal.Gen Cert.ReferenceIdeal.Value Cert.Proof.Spec
open Idealize.ShloMosaic Idealize.ShloMosaic.TcCoe Idealize.ShloMosaic.Pointwise Idealize.ShloMosaic.StableHlo

/-- The slice's start for the loop counter `w`, with the reference's wrap of a negative index. -/
def start (w : IVec S_ 32) : Fin 1 → ℤ := fun k =>
  ((![select (cmpi .slt w (constantI S_ 32 0#32)) (addi (id w) (constantI S_ 32 5000#32)) w] : Fin 1 → IVec S_ 32) k
    (Shape.Idx.first h_S_)).toInt

/-- Entry `w` of a vector, copied to every place. -/
def own {α : Type} (x : S5000.Idx → α) (w : IVec S_ 32) : S5000.Idx → α :=
  broadcastInDim S5000 ![] bcast_S_S5000
    (shapeCast S_ (Host.dynamicSlice S1 x (start w) sliceFits_S5000_S1) shapeCasts_S1_S_)

/-- A counter `k` below 5000 is not wrapped. -/
theorem start_eq (w : IVec S_ 32) (k : ℕ) (hk : k < 5000) (hw : w ix0 = BitVec.ofNat 32 k) :
    start w = fun _ => (k : ℤ) := by
  funext a
  have h0 : a = 0 := Subsingleton.elim _ _
  subst h0
  have e : Shape.Idx.first h_S_ = ix0 := funext fun a => a.elim0
  have hn : (BitVec.ofNat 32 k).toNat = k := by rw [BitVec.toNat_ofNat]; omega
  unfold start
  rw [e]
  show (Scalar.select (IntOp.cmpi .slt (w ix0) 0#32) _ (w ix0)).toInt = (k : ℤ)
  rw [Routing.wrap_of_lt _ _ (by rw [hw, hn]; omega), hw, BitVec.toInt_eq_toNat_of_lt (by omega), hn]

/-- The copied entry is entry `k`. -/
theorem own_apply {α : Type} (x : S5000.Idx → α) (w : IVec S_ 32) (k : ℕ) (hk : k < 5000)
    (hw : w ix0 = BitVec.ofNat 32 k) (n : Fin 5000) : own x w (ix1 n) = x (ix1 ⟨k, hk⟩) := by
  unfold own
  rw [start_eq w k hk hw]
  pointwise
  refine congrArg (fun q => x (ix1 q)) (Fin.ext ?_)
  exact Host.clampedStart_of_le (s := S5000) (t := S1) rfl (fun _ => (k : ℤ)) 0 k rfl (by show k + 1 ≤ 5000; omega)

/-- A one-bit word's complement is the bit one exactly when the word is not. -/
theorem noti_eq_one (b : BitVec 1) : ~~~b = 1#1 ↔ ¬ b = 1#1 := by revert b; decide

/-- The areas that detection `w`'s box shares with every box. -/
def shared (x1 y1 x2 y2 : FVec Ideal S5000 .f32) (w : IVec S_ 32) : FVec Ideal S5000 .f32 :=
  mulf (maximumf (subf (minimumf (own x2 w) x2) (maximumf (own x1 w) x1)) (broadcastInDim S5000 ![] bcast_S_S5000 (constant S_ .f32 0x00000000#32)))
    (maximumf (subf (minimumf (own y2 w) y2) (maximumf (own y1 w) y1)) (broadcastInDim S5000 ![] bcast_S_S5000 (constant S_ .f32 0x00000000#32)))

/-- The flags after detection `w` has been tried. -/
def flags (x1 y1 x2 y2 ar : FVec Ideal S5000 .f32) (ids : IVec S5000 32) (w : IVec S_ 32) (alive : IVec S5000 1) : IVec S5000 1 :=
  andi alive (noti (andi (andi
    (cmpf .ogt (Host.divf (shared x1 y1 x2 y2 w)
        (addf (subf (addf (own ar w) ar) (shared x1 y1 x2 y2 w)) (broadcastInDim S5000 ![] bcast_S_S5000 (constant S_ .f32 0x3089705F#32))))
      (broadcastInDim S5000 ![] bcast_S_S5000 (constant S_ .f32 0x3F19999A#32)))
    (cmpi .sgt ids (broadcastInDim S5000 ![] bcast_S_S5000 w))) (own alive w)))

/-- The trip's new flags, from the buffers it reads. -/
theorem step_flags (V : Valuation τ sig (Elt Ideal)) : step_main_v23_8 V
    = flags (V (Proc.devRef .tc main_v23_0)) (V (Proc.devRef .tc main_v23_1)) (V (Proc.devRef .tc main_v23_2)) (V (Proc.devRef .tc main_v23_3))
      (V (Proc.devRef .tc main_v23_4)) (V (Proc.devRef .tc main_v23_5)) (V (Proc.devRef .tc main_v23_7)) (V (Proc.devRef .tc main_v23_8)) := rfl

/-- The carried buffers before trip `k`, for the detections `R`. -/
structure Carried (R : ℕ → Fin 9 → EReal) (k : ℕ) (x1 y1 x2 y2 ar : FVec Ideal S5000 .f32) (ids : IVec S5000 32) (w : IVec S_ 32)
    (alive : IVec S5000 1) : Prop where
  left : ∀ n : Fin 5000, x1 (ix1 n) = R n.val 1
  top : ∀ n : Fin 5000, y1 (ix1 n) = R n.val 2
  right : ∀ n : Fin 5000, x2 (ix1 n) = R n.val 3
  bottom : ∀ n : Fin 5000, y2 (ix1 n) = R n.val 4
  size : ∀ n : Fin 5000, ar (ix1 n) = area (R n.val)
  number : ∀ n : Fin 5000, ids (ix1 n) = BitVec.ofNat 32 n.val
  counter : w ix0 = BitVec.ofNat 32 k
  flag : ∀ n : Fin 5000, alive (ix1 n) = 1#1 ↔ keep R k n.val

section
variable {R : ℕ → Fin 9 → EReal} {k : ℕ} {x1 y1 x2 y2 ar : FVec Ideal S5000 .f32} {ids : IVec S5000 32} {w : IVec S_ 32} {alive : IVec S5000 1}

/-- The shared area, entry by entry. -/
theorem shared_apply (h : Carried R k x1 y1 x2 y2 ar ids w alive) (hk : k < 5000) (n : Fin 5000) :
    shared x1 y1 x2 y2 w (ix1 n) = inter (R k) (R n.val) := by
  pointwise [shared]
  simp only [own_apply _ w k hk h.counter]
  rw [h.left, h.top, h.right, h.bottom, h.left, h.top, h.right, h.bottom]
  rfl

/-- The new flag of detection `n`: it survives detection `k` as well. -/
theorem flags_apply (h : Carried R k x1 y1 x2 y2 ar ids w alive) (hk : k < 5000) (n : Fin 5000) :
    flags x1 y1 x2 y2 ar ids w alive (ix1 n) = 1#1 ↔ keep R (k + 1) n.val := by
  have hk' : (ids (ix1 n) : BitVec 32) = BitVec.ofNat 32 n.val := h.number n
  have hn := n.isLt
  unfold flags
  pointwise
  rw [own_apply _ w k hk h.counter, own_apply _ w k hk h.counter, shared_apply h hk, h.size, h.size, h.counter, hk',
    andi_eq_one, noti_eq_one, andi_eq_one, andi_eq_one, ofBool_decide_eq_one,
    WordCmp.cmpi_sgt_ofNat_eq_one_iff (by omega) (by omega), h.flag, h.flag]
  rfl

/-- One trip takes the carried buffers before trip `k` to those before trip `k + 1`. -/
theorem Carried.next (h : Carried R k x1 y1 x2 y2 ar ids w alive) (hk : k < 5000) :
    Carried R (k + 1) x1 y1 x2 y2 ar ids (addi w (constantI S_ 32 1#32)) (flags x1 y1 x2 y2 ar ids w alive) :=
  { h with
    counter := by
      show w ix0 + 1#32 = _
      rw [h.counter, BitVec.ofNat_add]
    flag := flags_apply h hk }
end

/-- The carried buffers of one contents. -/
abbrev CarriedBy (R : ℕ → Fin 9 → EReal) (k : ℕ) (V : Valuation τ sig (Elt Ideal)) : Prop :=
  Carried R k (V (Proc.devRef .tc main_v23_0)) (V (Proc.devRef .tc main_v23_1)) (V (Proc.devRef .tc main_v23_2)) (V (Proc.devRef .tc main_v23_3))
    (V (Proc.devRef .tc main_v23_4)) (V (Proc.devRef .tc main_v23_5)) (V (Proc.devRef .tc main_v23_7)) (V (Proc.devRef .tc main_v23_8))

/-- After `k` trips of the loop. -/
theorem carried_iterate (R : ℕ → Fin 9 → EReal) (V : Valuation τ sig (Elt Ideal)) (h0 : CarriedBy R 0 V) :
    ∀ k, k ≤ 5000 → CarriedBy R k (STEP^[k] V)
  | 0, _ => h0
  | k + 1, hk => by
    have h := (carried_iterate R V h0 k (by omega)).next (by omega)
    rw [Function.iterate_succ_apply']
    generalize STEP^[k] V = W at h
    unfold CarriedBy
    rw [STEP_main_v23_0, STEP_main_v23_1, STEP_main_v23_2, STEP_main_v23_3, STEP_main_v23_4, STEP_main_v23_5, STEP_main_v23_7,
      STEP_main_v23_8, step_flags]
    exact h

end Cert.Proof.ReferenceIdeal

end
-- ==== Proof.ReferenceVectors.lean ====
/-
  What the reference computes around its loop, as functions of the sorted detections: the loop's starting vectors, the
  size, score and type filters, and the masked result.
-/
module

public import proofs.«01_k».proof.Proof.ReferenceLoopValue

@[expose] public section

set_option maxRecDepth 16384

noncomputable section

namespace Cert.Proof.ReferenceIdeal

open Cert.ReferenceIdeal Cert.ReferenceIdeal.Gen Cert.ReferenceIdeal.Value Cert.Proof.Spec
open Idealize.ShloMosaic Idealize.ShloMosaic.TcCoe Idealize.ShloMosaic.Pointwise Idealize.ShloMosaic.StableHlo

/-- One value in every place. -/
def fill (w : BitVec 32) : FVec Ideal S5000 .f32 := broadcastInDim S5000 ![] bcast_S_S5000 (constant S_ .f32 w)

/-- The box columns and the score columns. -/
def boxes (x : FVec Ideal S5000x9 .f32) : FVec Ideal S5000x4 .f32 := extractStridedSlice S5000x4 ![0, 1] x slices_S5000x9_S5000x4_0_1
/-- The class scores of the sorted detections. -/
def scores (x : FVec Ideal S5000x9 .f32) : FVec Ideal S5000x4 .f32 := extractStridedSlice S5000x4 ![0, 5] x slices_S5000x9_S5000x4_0_5

/-- The boxes' left, top, right and bottom edges. -/
def edge0 (b : FVec Ideal S5000x4 .f32) : FVec Ideal S5000 .f32 :=
  shapeCast S5000 (extractStridedSlice S5000x1 ![0, 0] b slices_S5000x4_S5000x1_0_0) shapeCasts_S5000x1_S5000
/-- Box coordinate 1 of every detection. -/
def edge1 (b : FVec Ideal S5000x4 .f32) : FVec Ideal S5000 .f32 :=
  shapeCast S5000 (extractStridedSlice S5000x1 ![0, 1] b slices_S5000x4_S5000x1_0_1) shapeCasts_S5000x1_S5000
/-- Box coordinate 2 of every detection. -/
def edge2 (b : FVec Ideal S5000x4 .f32) : FVec Ideal S5000 .f32 :=
  shapeCast S5000 (extractStridedSlice S5000x1 ![0, 2] b slices_S5000x4_S5000x1_0_2) shapeCasts_S5000x1_S5000
/-- Box coordinate 3 of every detection. -/
def edge3 (b : FVec Ideal S5000x4 .f32) : FVec Ideal S5000 .f32 :=
  shapeCast S5000 (extractStridedSlice S5000x1 ![0, 3] b slices_S5000x4_S5000x1_0_3) shapeCasts_S5000x1_S5000

/-- The boxes' widths, heights, areas and aspects. -/
def width (b : FVec Ideal S5000x4 .f32) : FVec Ideal S5000 .f32 := subf (edge2 b) (edge0 b)
/-- The heights of the boxes. -/
def height (b : FVec Ideal S5000x4 .f32) : FVec Ideal S5000 .f32 := subf (edge3 b) (edge1 b)
/-- The areas of the boxes. -/
def areas (b : FVec Ideal S5000x4 .f32) : FVec Ideal S5000 .f32 :=
  mulf (maximumf (width b) (fill 0x00000000#32)) (maximumf (height b) (fill 0x00000000#32))
/-- The aspect ratios of the boxes. -/
def ratio (b : FVec Ideal S5000x4 .f32) : FVec Ideal S5000 .f32 :=
  select (cmpf .ogt (width b) (fill 0x00000000#32)) (Host.divf (height b) (maximumf (width b) (fill 0x3089705F#32))) (fill 0x00000000#32)

/-- The size filter's flags. -/
def sizedFlags (b : FVec Ideal S5000x4 .f32) : IVec S5000 1 :=
  andi (andi (andi (andi (andi (cmpf .oge (width b) (fill 0x40A00000#32)) (cmpf .oge (height b) (fill 0x40A00000#32)))
    (cmpf .ole (width b) (fill 0x43960000#32))) (cmpf .ole (height b) (fill 0x43960000#32)))
    (cmpf .oge (ratio b) (fill 0x3F000000#32))) (cmpf .ole (ratio b) (fill 0x41000000#32))

/-- The score filter's flags. -/
def sureFlags (x : FVec Ideal S5000x9 .f32) : IVec S5000 1 :=
  cmpf .oge (Host.reduce FloatOps.maximumf (scores x) (constant S_ .f32 0xFF800000#32) reducesTo_S5000x4_S5000_d1 h_S_) (fill 0x3E99999A#32)

/-- The place of each detection's highest score. -/
def kinds (x : FVec Ideal S5000x9 .f32) : IVec S5000 32 := fun j =>
  (Host.argReduce reducer_argmax_f32_i32 (scores x) (iotaInDim S5000x4 32 1) (constant S_ .f32 0xFF800000#32) (constantI S_ 32 0#32)
    reducesTo_S5000x4_S5000_d1 h_S_ j).2

/-- The type filter's flags. -/
def typedFlags (x : FVec Ideal S5000x9 .f32) : IVec S5000 1 :=
  cmpi .ne (kinds x) (broadcastInDim S5000 ![] bcast_S_S5000 (constantI S_ 32 0#32))

/-- The detections that pass, the others zeroed. -/
def masked (x : FVec Ideal S5000x9 .f32) (b : FVec Ideal S5000x4 .f32) (alive : IVec S5000 1) : FVec Ideal S5000x9 .f32 :=
  mulf x (broadcastInDim S5000x9 ![0, 1] bcast_S5000x1_S5000x9_0_1
    (uitofp .f32 (broadcastInDim S5000x1 ![0] bcast_S5000_S5000x1_0
      (andi (andi (andi alive (sizedFlags b)) (sureFlags x)) (typedFlags x)))))

/-- The operations after the loop, at any contents. -/
theorem post_eq (W : Valuation τ sig (Elt Ideal)) : afterL postI W (Proc.devRef .tc main_v71)
    = masked (W (Proc.devRef .tc main_v4)) (W (Proc.devRef .tc main_v5)) (W (Proc.devRef .tc main_v23_8)) := by
  simp only [postI, afterL_cons, afterL_nil]
  after_results
  rfl

/-! The buffers at the loop's entry, at any contents before the loop's set-up. -/

/-- What the loop starts from: the boxes. -/
theorem entry_boxes (W : Valuation τ sig (Elt Ideal)) : after hostOps0_3 W (Proc.devRef .tc main_v5) = boxes (W (Proc.devRef .tc main_v4)) := by
  after_results
  rfl
/-- What the loop starts from: the value it carries in place 0. -/
theorem entry_0 (W : Valuation τ sig (Elt Ideal)) : after hostOps0_3 W (Proc.devRef .tc main_v23_0) = edge0 (boxes (W (Proc.devRef .tc main_v4))) := by
  after_results
  rfl
/-- What the loop starts from: the value it carries in place 1. -/
theorem entry_1 (W : Valuation τ sig (Elt Ideal)) : after hostOps0_3 W (Proc.devRef .tc main_v23_1) = edge1 (boxes (W (Proc.devRef .tc main_v4))) := by
  after_results
  rfl
/-- What the loop starts from: the value it carries in place 2. -/
theorem entry_2 (W : Valuation τ sig (Elt Ideal)) : after hostOps0_3 W (Proc.devRef .tc main_v23_2) = edge2 (boxes (W (Proc.devRef .tc main_v4))) := by
  after_results
  rfl
/-- What the loop starts from: the value it carries in place 3. -/
theorem entry_3 (W : Valuation τ sig (Elt Ideal)) : after hostOps0_3 W (Proc.devRef .tc main_v23_3) = edge3 (boxes (W (Proc.devRef .tc main_v4))) := by
  after_results
  rfl
/-- What the loop starts from: the value it carries in place 4. -/
theorem entry_4 (W : Valuation τ sig (Elt Ideal)) : after hostOps0_3 W (Proc.devRef .tc main_v23_4) = areas (boxes (W (Proc.devRef .tc main_v4))) := by
  after_results
  rfl
/-- What the loop starts from: the value it carries in place 5. -/
theorem entry_5 (W : Valuation τ sig (Elt Ideal)) : after hostOps0_3 W (Proc.devRef .tc main_v23_5) = iotaInDim S5000 32 0 := by
  after_results
  rfl
/-- What the loop starts from: the value it carries in place 7. -/
theorem entry_7 (W : Valuation τ sig (Elt Ideal)) : after hostOps0_3 W (Proc.devRef .tc main_v23_7) = constantI S_ 32 0#32 := by
  after_results
  rfl
/-- What the loop starts from: the value it carries in place 8. -/
theorem entry_8 (W : Valuation τ sig (Elt Ideal)) : after hostOps0_3 W (Proc.devRef .tc main_v23_8)
    = broadcastInDim S5000 ![] bcast_S_S5000 (constantI S_ 1 1#1) := by
  after_results
  rfl

end Cert.Proof.ReferenceIdeal

end
-- ==== Proof.ReferenceFilters.lean ====
/-
  The reference's filters read entry by entry.
-/
module

public import proofs.«01_k».proof.Proof.ReferenceVectors

@[expose] public section

set_option maxRecDepth 16384

noncomputable section

namespace Cert.Proof.ReferenceIdeal

open Cert.ReferenceIdeal Cert.ReferenceIdeal.Gen Cert.ReferenceIdeal.Value Cert.Proof.Spec
open Idealize.ShloMosaic Idealize.ShloMosaic.TcCoe Idealize.ShloMosaic.Pointwise Idealize.ShloMosaic.StableHlo

variable (x : FVec Ideal S5000x9 .f32) (n : Fin 5000)

/-! The edges, widths and heights, entry by entry. -/

/-- Entry `n` of box coordinate 0 is column 1 of detection `n`. -/
theorem edge0_apply : edge0 (boxes x) (ix1 n) = dets x n.val 1 := by
  rw [dets_of_lt]; pointwise [edge0, boxes]
/-- Entry `n` of box coordinate 1 is column 2 of detection `n`. -/
theorem edge1_apply : edge1 (boxes x) (ix1 n) = dets x n.val 2 := by
  rw [dets_of_lt]; pointwise [edge1, boxes]
/-- Entry `n` of box coordinate 2 is column 3 of detection `n`. -/
theorem edge2_apply : edge2 (boxes x) (ix1 n) = dets x n.val 3 := by
  rw [dets_of_lt]; pointwise [edge2, boxes]
/-- Entry `n` of box coordinate 3 is column 4 of detection `n`. -/
theorem edge3_apply : edge3 (boxes x) (ix1 n) = dets x n.val 4 := by
  rw [dets_of_lt]; pointwise [edge3, boxes]

/-- The score columns are columns 5 to 8. -/
theorem score_apply (q : Fin 4) : scores x (ix2 n q) = dets x n.val ⟨5 + q.val, by omega⟩ := by
  rw [dets_of_lt]; pointwise [scores]

/-- Entry `n` of the widths, in terms of detection `n`. -/
theorem width_apply : width (boxes x) (ix1 n) = dets x n.val 3 - dets x n.val 1 := by
  rw [← edge2_apply, ← edge0_apply]; rfl
/-- Entry `n` of the heights, in terms of detection `n`. -/
theorem height_apply : height (boxes x) (ix1 n) = dets x n.val 4 - dets x n.val 2 := by
  rw [← edge3_apply, ← edge1_apply]; rfl

/-- The areas, entry by entry. -/
theorem areas_apply : areas (boxes x) (ix1 n) = area (dets x n.val) := by
  unfold areas
  pointwise [fill]
  rw [width_apply, height_apply]
  rfl

/-- The aspects, entry by entry. -/
theorem ratio_apply : ratio (boxes x) (ix1 n) = aspect (dets x n.val) := by
  unfold ratio
  pointwise [fill]
  rw [width_apply, height_apply]
  rfl

/-- The size filter. -/
theorem sizedFlags_iff : sizedFlags (boxes x) (ix1 n) = 1#1 ↔ sized (dets x n.val) := by
  unfold sizedFlags
  pointwise [fill]
  rw [width_apply, height_apply, ratio_apply]
  simp only [andi_eq_one, ofBool_decide_eq_one]
  rfl

/-- The word from which the reductions over the scores start is the least value. -/
theorem least_word : Ideal.ofBits .f32 0xFF800000#32 = ⊥ := by
  simp [Ideal.ofBits, Ideal.ieee]

/-- The score filter: the reduction is the highest of the four scores. -/
theorem sureFlags_iff : sureFlags x (ix1 n) = 1#1 ↔ sure (dets x n.val) := by
  unfold sureFlags
  pointwise [fill]
  rw [ofBool_decide_eq_one, least_word]
  have e : Finset.fold max ⊥ (fun q => (scores x (ix2 n q) : EReal)) Finset.univ
      = max (max (dets x n.val 5) (dets x n.val 6)) (max (dets x n.val 7) (dets x n.val 8)) := by
    simp only [score_apply]
    rw [show (Finset.univ : Finset (Fin 4)) = {0, 1, 2, 3} from rfl]
    rw [Finset.fold_insert (by decide), Finset.fold_insert (by decide), Finset.fold_insert (by decide), Finset.fold_singleton]
    rw [max_bot_right, max_assoc]
    rfl
  exact (iff_of_eq (congrArg (fun z : EReal => Ideal.ofBits .f32 0x3E99999A#32 ≤ z) e))

/-- Which of two (score, place) pairs comes first: the higher score, of equal scores the lower place. -/
def ahead (a b : EReal × BitVec 32) : Prop := b.1 < a.1 ∨ (a.1 = b.1 ∧ a.2.toInt < b.2.toInt)

open Classical in
/-- The reduction behind the place of the highest score keeps the pair that comes first. -/
theorem reducer_eq (a b : EReal × BitVec 32) : reducer_argmax_f32_i32 (F := Ideal) a b = if ahead a b then a else b := by
  obtain ⟨v, i⟩ := a
  obtain ⟨s, j⟩ := b
  have ho : FloatOps.cmpf (F := Ideal) (φ := .f32) .ogt v s = BitVec.ofBool (decide (s < v)) := by pointwise
  have hu : FloatOps.cmpf (F := Ideal) (φ := .f32) .une v v = 0#1 := by simp [Ideal.cmpf_def, Ideal.cmp]
  have he : FloatOps.cmpf (F := Ideal) (φ := .f32) .oeq v s = BitVec.ofBool (decide (v = s)) := by simp [Ideal.cmpf_def, Ideal.cmp]
  have hs : IntOp.cmpi .slt i j = BitVec.ofBool (decide (i.toInt < j.toInt)) := by simp [IntOp.cmpi, BitVec.slt]
  unfold reducer_argmax_f32_i32 ahead
  dsimp only
  rw [ho, hu, he, hs]
  rcases lt_trichotomy s v with h | h | h
  · simp [h, h.ne', Scalar.select, IntOp.ori, IntOp.andi]
  · subst h
    by_cases hi : i.toInt < j.toInt <;> simp [hi, Scalar.select, IntOp.ori, IntOp.andi]
  · simp [h.not_gt, h.ne, Scalar.select, IntOp.ori, IntOp.andi]

/-- A pair's place in that order. -/
def key (a : EReal × BitVec 32) : EReal ×ₗ ℤᵒᵈ := toLex (a.1, OrderDual.toDual a.2.toInt)

/-- The order is total on pairs. -/
theorem key_injective : Function.Injective key := by
  rintro ⟨v, i⟩ ⟨s, j⟩ h
  have h' := toLex.injective h
  simp only [Prod.mk.injEq] at h'
  exact Prod.ext h'.1 (BitVec.eq_of_toInt_eq (OrderDual.toDual.injective h'.2))

/-- A pair comes first exactly when its key is larger. -/
theorem ahead_iff (a b : EReal × BitVec 32) : ahead a b ↔ key b < key a := by
  unfold key ahead
  rw [Prod.Lex.toLex_lt_toLex]
  exact or_congr Iff.rfl (and_congr eq_comm OrderDual.toDual_lt_toDual.symm)

/-- So the reduction takes the larger key, in whatever order the pairs are met. -/
theorem key_reducer (a b : EReal × BitVec 32) : key (reducer_argmax_f32_i32 (F := Ideal) a b) = max (key a) (key b) := by
  rw [reducer_eq]
  split
  · rename_i h
    rw [max_eq_left ((ahead_iff a b).1 h).le]
  · rename_i h
    rw [max_eq_right (not_lt.1 fun q => h ((ahead_iff a b).2 q))]

instance : Std.Commutative (reducer_argmax_f32_i32 (F := Ideal)) := ⟨fun a b => key_injective (by rw [key_reducer, key_reducer, max_comm])⟩
instance : Std.Associative (reducer_argmax_f32_i32 (F := Ideal)) :=
  ⟨fun a b c => key_injective (by rw [key_reducer, key_reducer, key_reducer, key_reducer, max_assoc])⟩

/-- The place of the highest score, as a fold over the four scores. -/
theorem kinds_eq : kinds x (ix1 n) = (Finset.univ.fold (reducer_argmax_f32_i32 (F := Ideal)) (⊥, 0#32)
    (fun q : Fin 4 => (dets x n.val ⟨5 + q.val, by omega⟩, BitVec.ofNat 32 q.val))).2 := by
  unfold kinds
  rw [Ideal.argReduce_eq_reduce2]
  unfold Host.reduce2
  refine congrArg Prod.snd ?_
  refine (Shape.foldl_filter_rowMajor_eq_fold _ _ _ (fun i => (scores x i, iotaInDim S5000x4 32 1 i)) _).trans ?_
  rw [Shape.ReducesTo.fold_fiber_r2_a1]
  pointwise
  simp only [score_apply]
  rw [least_word]

/-- The best of some pairs with score `M`: its place is 0 only if `M` is the least value. -/
structure Best (r : EReal × BitVec 32) (M : EReal) : Prop where
  score : r.1 = M
  place : r.2 = 0#32 → M = ⊥
  nonneg : 0 ≤ r.2.toInt

/-- Adding a pair with a positive place. -/
theorem Best.step {r : EReal × BitVec 32} {M : EReal} (h : Best r M) (s : EReal) (j : BitVec 32) (hj : 0 < j.toInt) :
    Best (reducer_argmax_f32_i32 (F := Ideal) (s, j) r) (max s M) := by
  have hs := h.score
  rw [reducer_eq]
  split
  · rename_i q
    refine ⟨?_, fun e => absurd e ?_, hj.le⟩
    · rcases q with q | q
      · exact (max_eq_left (hs ▸ q.le)).symm
      · exact (max_eq_left (hs ▸ q.1.ge)).symm
    · rintro e
      simp only at e
      rw [e] at hj
      simp at hj
  · rename_i q
    have q1 : s ≤ M := not_lt.1 fun w => q (.inl (hs ▸ w))
    rw [max_eq_right q1]
    exact h

/-- The place is not 0 exactly when a later score is above the first. -/
theorem typed_fold (s0 s1 s2 s3 : EReal) :
    (reducer_argmax_f32_i32 (F := Ideal) (s0, 0#32) (reducer_argmax_f32_i32 (F := Ideal) (s1, 1#32)
      (reducer_argmax_f32_i32 (F := Ideal) (s2, 2#32) (reducer_argmax_f32_i32 (F := Ideal) (s3, 3#32) (⊥, 0#32))))).2 ≠ 0#32
      ↔ s0 < max (max s1 s2) s3 := by
  have b0 : Best (⊥, 0#32) ⊥ := ⟨rfl, fun _ => rfl, by simp⟩
  have b := ((b0.step s3 3#32 (by decide)).step s2 2#32 (by decide)).step s1 1#32 (by decide)
  generalize reducer_argmax_f32_i32 (F := Ideal) (s1, 1#32) _ = r at b ⊢
  rw [max_bot_right, ← max_assoc] at b
  generalize max (max s1 s2) s3 = M at b ⊢
  have hs := b.score
  rw [reducer_eq]
  split
  · rename_i q
    refine iff_of_false (fun h => h rfl) (not_lt.2 ?_)
    rcases q with q | q
    · exact hs ▸ q.le
    · exact hs ▸ q.1.ge
  · rename_i q
    have q1 : s0 ≤ M := not_lt.1 fun w => q (.inl (hs ▸ w))
    constructor
    · intro h
      refine lt_of_le_of_ne q1 fun e => q (.inr ⟨e.trans hs.symm, ?_⟩)
      have hn := b.nonneg
      have : r.2.toInt ≠ 0 := fun z => h (BitVec.eq_of_toInt_eq (z.trans (by decide)))
      show (0#32).toInt < r.2.toInt
      rw [show (0#32).toInt = 0 from by decide]
      omega
    · intro h e
      rw [b.place e] at h
      exact not_lt_bot h

/-- The type filter. -/
theorem typedFlags_iff : typedFlags x (ix1 n) = 1#1 ↔ typed (dets x n.val) := by
  have h : typedFlags x (ix1 n) = IntOp.cmpi .ne (kinds x (ix1 n)) 0#32 := rfl
  rw [h, kinds_eq]
  rw [show (Finset.univ : Finset (Fin 4)) = {0, 1, 2, 3} from rfl]
  rw [Finset.fold_insert (by decide), Finset.fold_insert (by decide), Finset.fold_insert (by decide), Finset.fold_singleton]
  refine Iff.trans ?_ (typed_fold (dets x n.val 5) (dets x n.val 6) (dets x n.val 7) (dets x n.val 8))
  rw [WordCmp.cmpi_ne_eq, ofBool_decide_eq_one]
  exact Iff.rfl

end Cert.Proof.ReferenceIdeal

end
-- ==== Proof.ReferenceResult.lean ====
/-
  The reference's result entry by entry: each sorted detection times its mask.
-/
module

public import proofs.«01_k».proof.Proof.ReferenceFilters

@[expose] public section

set_option maxRecDepth 16384

noncomputable section

namespace Cert.Proof.ReferenceIdeal

open Cert.ReferenceIdeal Cert.ReferenceIdeal.Gen Cert.ReferenceIdeal.Value Cert.Proof.Spec
open Idealize.ShloMosaic Idealize.ShloMosaic.TcCoe Idealize.ShloMosaic.Pointwise Idealize.ShloMosaic.StableHlo

/-- A one-bit flag as a number. -/
theorem flag_value (b : BitVec 1) : (FloatOps.uitofp (F := Ideal) .f32 b : EReal) = if b = 1#1 then 1 else 0 := by
  have h : b = 0#1 ∨ b = 1#1 := by revert b; decide
  rcases h with rfl | rfl
  · rw [if_neg (by decide)]
    show (((0#1 : BitVec 1).toNat : ℝ) : EReal) = 0
    simp
  · rw [if_pos rfl]
    show (((1#1 : BitVec 1).toNat : ℝ) : EReal) = 1
    simp

open Classical in
/-- The result, given what the loop's flags say of a property `P`. -/
theorem masked_apply (x : FVec Ideal S5000x9 .f32) (alive : IVec S5000 1) (n : Fin 5000) (c : Fin 9) (P : Prop)
    (h : alive (ix1 n) = 1#1 ↔ P) :
    masked x (boxes x) alive (ix2 n c) = (x (ix2 n c) : EReal)
      * (if ((P ∧ sized (dets x n.val)) ∧ sure (dets x n.val)) ∧ typed (dets x n.val) then 1 else 0) := by
  unfold masked
  pointwise
  refine congrArg (fun z : EReal => (x (ix2 n c) : EReal) * z) ?_
  refine (flag_value _).trans (if_congr ?_ rfl rfl)
  rw [andi_eq_one, andi_eq_one, andi_eq_one, h, sizedFlags_iff, sureFlags_iff, typedFlags_iff]

/-- The loop starts with every flag set. -/
theorem carried_entry (W : Valuation τ sig (Elt Ideal)) : CarriedBy (dets (W (Proc.devRef .tc main_v4))) 0 (after hostOps0_3 W) := by
  unfold CarriedBy
  rw [entry_0, entry_1, entry_2, entry_3, entry_4, entry_5, entry_7, entry_8]
  generalize W (Proc.devRef .tc main_v4) = x
  exact
  { left := edge0_apply x
    top := edge1_apply x
    right := edge2_apply x
    bottom := edge3_apply x
    size := areas_apply x
    number := fun n => rfl
    counter := rfl
    flag := fun n => iff_of_true rfl trivial }

variable (m : (ℓ : Loc nD τ sig) → Buf (Elt Ideal) ℓ) (c : Dev nD)

/-- The contents before the loop's set-up. -/
def sortedAt : Valuation τ sig (Elt Ideal) := after hostOps0_2 (after hostOps0_1 (after hostOps0 (launchContents m c)))

/-- The sorted detections. -/
def sorted : FVec Ideal S5000x9 .f32 := sortedAt m c (Proc.devRef .tc main_v4)

/-- The loop's entry is the set-up run on those contents. -/
theorem entry_eq : entryContents preI m c = after hostOps0_3 (sortedAt m c) := rfl

/-- The loop's last contents hold the sorted detections. -/
theorem last_sorted : after condOps (atK m 5000 c) (Proc.devRef .tc main_v4) = sorted m c := by
  rw [after_of_writes_sub condOps _ condOps_writes (by decide), show atK m 5000 c (Proc.devRef .tc main_v4) = entryContents preI m c (Proc.devRef .tc main_v4) from
      keep_trip _ c main_v4 (by decide) (by decide) 5000,
    entry_eq, after_of_writes_sub hostOps0_3 _ hostOps0_3_writes (by decide)]
  rfl

/-- The boxes likewise. -/
theorem last_boxes : after condOps (atK m 5000 c) (Proc.devRef .tc main_v5) = boxes (sorted m c) := by
  rw [after_of_writes_sub condOps _ condOps_writes (by decide), show atK m 5000 c (Proc.devRef .tc main_v5) = entryContents preI m c (Proc.devRef .tc main_v5) from
      keep_trip _ c main_v5 (by decide) (by decide) 5000,
    entry_eq, entry_boxes]
  rfl

/-- The last flags are those of the detections kept after all 5000 trips. -/
theorem last_flags (n : Fin 5000) :
    (after condOps (atK m 5000 c) (Proc.devRef .tc main_v23_8) : IVec S5000 1) (ix1 n) = 1#1 ↔ keep (dets (sorted m c)) 5000 n.val := by
  rw [cond_keeps (atK m 5000 c) main_v23_8 (by decide), atK_agree m c 5000 main_v23_8 (by decide), entry_eq]
  exact (carried_iterate _ _ (carried_entry (sortedAt m c)) 5000 le_rfl).flag n

/-- The reference's result, entry by entry. -/
theorem result_apply (n : Fin 5000) (q : Fin 9) :
    (ended m c (Proc.devRef .tc main_v71) : FVec Ideal S5000x9 .f32) (ix2 n q)
      = (sorted m c (ix2 n q) : EReal) * mask (dets (sorted m c)) n.val := by
  have h := last_flags m c n
  have e : ended m c (Proc.devRef .tc main_v71) = masked (sorted m c) (boxes (sorted m c)) (after condOps (atK m 5000 c) (Proc.devRef .tc main_v23_8)) := by
    rw [← last_boxes, ← last_sorted]
    exact post_eq _
  rw [e]
  exact masked_apply _ _ n q _ h

end Cert.Proof.ReferenceIdeal

end
-- ==== Proof.Equation.lean ====
/-
  The equation: from equal arguments the kernel program and the reference sort alike, so their results agree.
-/
module

public import proofs.«01_k».proof.Proof.KernelResult
public import proofs.«01_k».proof.Proof.ReferenceResult

@[expose] public section

set_option maxRecDepth 16384

noncomputable section

namespace Cert.Proof

open Idealize.ShloMosaic Idealize.ShloMosaic.TcCoe Idealize.ShloMosaic.StableHlo

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- From equal arguments both programs sort alike. -/
theorem sorted_eq
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    KernelIdeal.sorted m c = ReferenceIdeal.sorted m' c := by
  have h' : launchContents m' c (Proc.devRef .tc Cert.ReferenceIdeal.main_arg0)
      = m (c, Proc.devRef .tc Cert.KernelIdeal.main_arg0) := h
  unfold KernelIdeal.sorted KernelIdeal.sortedAt ReferenceIdeal.sorted ReferenceIdeal.sortedAt
  after_results
  rw [h']
  generalize m (c, Proc.devRef .tc Cert.KernelIdeal.main_arg0) = a
  rfl

/-- From equal arguments the two results are equal. -/
theorem result_eq
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    (ReferenceIdeal.ended m' c (Proc.devRef .tc Cert.ReferenceIdeal.main_v71) : FVec Ideal ⟨2, ![5000, 9]⟩ .f32)
      = KernelIdeal.unfed (KernelIdeal.outBlock (F := Ideal) (KernelIdeal.fed (KernelIdeal.sorted m c))) := by
  refine funext fun j : (⟨2, ![5000, 9]⟩ : Shape).Idx => ?_
  have hr : ∀ (a : Fin 5000) (b : Fin 9),
      (ReferenceIdeal.ended m' c (Proc.devRef .tc Cert.ReferenceIdeal.main_v71) : FVec Ideal ⟨2, ![5000, 9]⟩ .f32) (ix2 a b)
        = KernelIdeal.unfed (KernelIdeal.outBlock (F := Ideal) (KernelIdeal.fed (KernelIdeal.sorted m c))) (ix2 a b) := fun a b => by
    refine (ReferenceIdeal.result_apply m' c a b).trans ?_
    rw [← sorted_eq m m' c h]
    exact (KernelIdeal.result_apply (KernelIdeal.sorted m c) a b).symm
  rw [eq_ix2 j]
  exact hr (j 0) (j 1)

/-- The idealized kernel's run: it ends with the result above and its argument unchanged. -/
theorem kernel_value (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v13)
          = KernelIdeal.unfed (KernelIdeal.outBlock (F := Ideal) (KernelIdeal.fed (KernelIdeal.sorted m c)))
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)) :=
  (θ_run _ _ _).mono (fun _ h c => ⟨((h.1.1 c).2 Cert.KernelIdeal.main_v13
      (Pipeline.mem_restRefs_of Cert.KernelIdeal.main_v13 (by decide) (by decide))).trans (KernelIdeal.end_eq m c), h.2.1 c⟩)
    (θ_run_and (KernelIdeal.main_run m ρ) (KernelIdeal.unchanged m ρ))

end Cert.Proof

end
-- ==== Proof.lean ====
/-
  The proof of the certificate's claim: the frames of the kernel, of its idealization and of the reference, the
  idealization itself, and the equation of the idealized kernel's result with the reference's.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.ReferenceIdealRun
public import proofs.«01_k».proof.Proof.Equation

@[expose] public section

noncomputable section

open Idealize.ShloMosaic

/-- The claim. -/
theorem Cert.Proof.claim : Cert.Claim :=
  ⟨Cert.Kernel.Gen.facts, Cert.KernelIdeal.Gen.facts, Cert.ReferenceIdeal.Gen.facts,
    fun m g _ => Cert.Proof.Kernel.unchanged m g, fun m g _ => Cert.Proof.KernelIdeal.unchanged m g,
    fun m g _ => Cert.Proof.ReferenceIdeal.unchanged m g, trivial,
    fun m g m' g' _ h => ⟨fun c => Cert.Proof.KernelIdeal.unfed (Cert.Proof.KernelIdeal.outBlock (F := Ideal)
        (Cert.Proof.KernelIdeal.fed (Cert.Proof.KernelIdeal.sorted m c))),
      Cert.Proof.kernel_value m g,
      (θ_run _ _ _).mono (fun r q c => ⟨(q.1 c).1.trans (Cert.Proof.result_eq m m' c (h c)), (q.1 c).2⟩)
        (Cert.Proof.ReferenceIdeal.main_run m' g')⟩⟩

end
